-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S8x256x640 : Shape := ⟨3, ![8, 256, 640]⟩
abbrev S8x256x128 : Shape := ⟨3, ![8, 256, 128]⟩
abbrev S7x256x640 : Shape := ⟨3, ![7, 256, 640]⟩
abbrev S7x256x128 : Shape := ⟨3, ![7, 256, 128]⟩
abbrev S4x3x4 : Shape := ⟨3, ![4, 3, 4]⟩
abbrev S_ : Shape := ⟨0, ![]⟩
abbrev S256x256 : Shape := ⟨2, ![256, 256]⟩
abbrev S256x640 : Shape := ⟨2, ![256, 640]⟩
abbrev S1x256x640 : Shape := ⟨3, ![1, 256, 640]⟩
abbrev S1x1x1 : Shape := ⟨3, ![1, 1, 1]⟩
abbrev S256x128 : Shape := ⟨2, ![256, 128]⟩
abbrev S1x256x128 : Shape := ⟨3, ![1, 256, 128]⟩

abbrev nBuf : Space → Nat
  | .hbm => 3
  | .vmem => 11
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S256x2048, .f32⟩
  | .local _ .vmem, ⟨0, _⟩ => ⟨S2048x256, .f32⟩
  | .local _ .vmem, ⟨1, _⟩ => ⟨S256x2048, .f32⟩
  | .local _ .vmem, ⟨2, _⟩ => ⟨S256x2048, .f32⟩
  | .local _ .vmem, ⟨3, _⟩ => ⟨S8x256x640, .f32⟩
  | .local _ .vmem, ⟨4, _⟩ => ⟨S8x256x640, .f32⟩
  | .local _ .vmem, ⟨5, _⟩ => ⟨S8x256x640, .f32⟩
  | .local _ .vmem, ⟨6, _⟩ => ⟨S8x256x128, .f32⟩
  | .local _ .vmem, ⟨7, _⟩ => ⟨S7x256x640, .f32⟩
  | .local _ .vmem, ⟨8, _⟩ => ⟨S7x256x640, .f32⟩
  | .local _ .vmem, ⟨9, _⟩ => ⟨S7x256x640, .f32⟩
  | .local _ .vmem, ⟨10, _⟩ => ⟨S7x256x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c2_i32
  let c256_i32 : BitVec 32 := 256#32
  let v14 : BitVec 32 := Scalar.muli v13 c256_i32
  let v15 : Index := Scalar.indexCast v14
  let c0 : Index := 0#32
  ![v15.toNat, 0]
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v24 : BitVec 32 := Scalar.xori v2 c1_i32_14
  let c1_i32_23 : BitVec 32 := 1#32
  let v25 : BitVec 32 := Scalar.muli v24 c1_i32_23
  let v26 : BitVec 32 := Scalar.addi c0_i32_24 v25
  v26.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_35 : BitVec 32 := 4#32
  let v46 : BitVec 32 := Scalar.xori v2 c4_i32_35
  let c1_i32_44 : BitVec 32 := 1#32
  let v47 : BitVec 32 := Scalar.muli v46 c1_i32_44
  let v48 : BitVec 32 := Scalar.addi c0_i32_45 v47
  v48.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v68 : BitVec 32 := Scalar.xori v2 c3_i32_56
  let c1_i32_64 : BitVec 32 := 1#32
  let v69 : BitVec 32 := Scalar.muli v68 c1_i32_64
  let v70 : BitVec 32 := Scalar.addi c0_i32_65 v69
  v70.toNat
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_78 : BitVec 32 := 3#32
  let v90 : BitVec 32 := Scalar.xori v2 c3_i32_78
  let c1_i32_87 : BitVec 32 := 1#32
  let v91 : BitVec 32 := Scalar.muli v90 c1_i32_87
  let v92 : BitVec 32 := Scalar.addi c0_i32_88 v91
  v92.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v112 : BitVec 32 := Scalar.xori v2 c1_i32_101
  let c1_i32_110 : BitVec 32 := 1#32
  let v113 : BitVec 32 := Scalar.muli v112 c1_i32_110
  let v114 : BitVec 32 := Scalar.addi c0_i32_111 v113
  v114.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_125 : BitVec 32 := 4#32
  let v134 : BitVec 32 := Scalar.xori v2 c4_i32_125
  let c1_i32_134 : BitVec 32 := 1#32
  let v135 : BitVec 32 := Scalar.muli v134 c1_i32_134
  let v136 : BitVec 32 := Scalar.addi c0_i32_135 v135
  v136.toNat
def k0_dev10 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_149 : BitVec 32 := 3#32
  let v156 : BitVec 32 := Scalar.xori v2 c3_i32_149
  let c1_i32_158 : BitVec 32 := 1#32
  let v157 : BitVec 32 := Scalar.muli v156 c1_i32_158
  let v158 : BitVec 32 := Scalar.addi c0_i32_159 v157
  v158.toNat
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_173 : BitVec 32 := 3#32
  let v178 : BitVec 32 := Scalar.xori v2 c3_i32_173
  let c1_i32_182 : BitVec 32 := 1#32
  let v179 : BitVec 32 := Scalar.muli v178 c1_i32_182
  let v180 : BitVec 32 := Scalar.addi c0_i32_183 v179
  v180.toNat
def k0_dev12 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_196 : BitVec 32 := 1#32
  let v200 : BitVec 32 := Scalar.xori v2 c1_i32_196
  let c1_i32_205 : BitVec 32 := 1#32
  let v201 : BitVec 32 := Scalar.muli v200 c1_i32_205
  let v202 : BitVec 32 := Scalar.addi c0_i32_206 v201
  v202.toNat
def k0_dev13 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_219 : BitVec 32 := 4#32
  let v222 : BitVec 32 := Scalar.xori v2 c4_i32_219
  let c1_i32_228 : BitVec 32 := 1#32
  let v223 : BitVec 32 := Scalar.muli v222 c1_i32_228
  let v224 : BitVec 32 := Scalar.addi c0_i32_229 v223
  v224.toNat
def k0_dev14 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_242 : BitVec 32 := 3#32
  let v244 : BitVec 32 := Scalar.xori v2 c3_i32_242
  let c1_i32_251 : BitVec 32 := 1#32
  let v245 : BitVec 32 := Scalar.muli v244 c1_i32_251
  let v246 : BitVec 32 := Scalar.addi c0_i32_252 v245
  v246.toNat
def k0_dev15 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_266 : BitVec 32 := 3#32
  let v266 : BitVec 32 := Scalar.xori v2 c3_i32_266
  let c1_i32_275 : BitVec 32 := 1#32
  let v267 : BitVec 32 := Scalar.muli v266 c1_i32_275
  let v268 : BitVec 32 := Scalar.addi c0_i32_276 v267
  v268.toNat
def k0_dev16 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_290 : BitVec 32 := 1#32
  let v288 : BitVec 32 := Scalar.xori v2 c1_i32_290
  let c1_i32_299 : BitVec 32 := 1#32
  let v289 : BitVec 32 := Scalar.muli v288 c1_i32_299
  let v290 : BitVec 32 := Scalar.addi c0_i32_300 v289
  v290.toNat
def k0_dev17 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_314 : BitVec 32 := 4#32
  let v310 : BitVec 32 := Scalar.xori v2 c4_i32_314
  let c1_i32_323 : BitVec 32 := 1#32
  let v311 : BitVec 32 := Scalar.muli v310 c1_i32_323
  let v312 : BitVec 32 := Scalar.addi c0_i32_324 v311
  v312.toNat
def k0_dev18 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_338 : BitVec 32 := 3#32
  let v332 : BitVec 32 := Scalar.xori v2 c3_i32_338
  let c1_i32_347 : BitVec 32 := 1#32
  let v333 : BitVec 32 := Scalar.muli v332 c1_i32_347
  let v334 : BitVec 32 := Scalar.addi c0_i32_348 v333
  v334.toNat
def k0_dev19 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_362 : BitVec 32 := 3#32
  let v354 : BitVec 32 := Scalar.xori v2 c3_i32_362
  let c1_i32_371 : BitVec 32 := 1#32
  let v355 : BitVec 32 := Scalar.muli v354 c1_i32_371
  let v356 : BitVec 32 := Scalar.addi c0_i32_372 v355
  v356.toNat
def k0_dev20 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_593 : BitVec 32 := 3#32
  let v585 : BitVec 32 := Scalar.xori v2 c3_i32_593
  let c1_i32_602 : BitVec 32 := 1#32
  let v586 : BitVec 32 := Scalar.muli v585 c1_i32_602
  let v587 : BitVec 32 := Scalar.addi c0_i32_603 v586
  v587.toNat
def k0_dev21 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_608 : BitVec 32 := 3#32
  let v596 : BitVec 32 := Scalar.xori v2 c3_i32_608
  let c1_i32_617 : BitVec 32 := 1#32
  let v597 : BitVec 32 := Scalar.muli v596 c1_i32_617
  let v598 : BitVec 32 := Scalar.addi c0_i32_618 v597
  v598.toNat
def k0_dev22 (d0 : Dev nD) : Nat :=
  let c0_i32_705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_695 : BitVec 32 := 1#32
  let v651 : BitVec 32 := Scalar.xori v2 c1_i32_695
  let c1_i32_704 : BitVec 32 := 1#32
  let v652 : BitVec 32 := Scalar.muli v651 c1_i32_704
  let v653 : BitVec 32 := Scalar.addi c0_i32_705 v652
  v653.toNat
def k0_dev23 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_710 : BitVec 32 := 1#32
  let v662 : BitVec 32 := Scalar.xori v2 c1_i32_710
  let c1_i32_719 : BitVec 32 := 1#32
  let v663 : BitVec 32 := Scalar.muli v662 c1_i32_719
  let v664 : BitVec 32 := Scalar.addi c0_i32_720 v663
  v664.toNat
def k0_dev24 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_797 : BitVec 32 := 4#32
  let v717 : BitVec 32 := Scalar.xori v2 c4_i32_797
  let c1_i32_806 : BitVec 32 := 1#32
  let v718 : BitVec 32 := Scalar.muli v717 c1_i32_806
  let v719 : BitVec 32 := Scalar.addi c0_i32_807 v718
  v719.toNat
def k0_dev25 (d0 : Dev nD) : Nat :=
  let c0_i32_822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_812 : BitVec 32 := 4#32
  let v728 : BitVec 32 := Scalar.xori v2 c4_i32_812
  let c1_i32_821 : BitVec 32 := 1#32
  let v729 : BitVec 32 := Scalar.muli v728 c1_i32_821
  let v730 : BitVec 32 := Scalar.addi c0_i32_822 v729
  v730.toNat
def k0_dev26 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_899 : BitVec 32 := 1#32
  let v783 : BitVec 32 := Scalar.xori v2 c1_i32_899
  let c1_i32_908 : BitVec 32 := 1#32
  let v784 : BitVec 32 := Scalar.muli v783 c1_i32_908
  let v785 : BitVec 32 := Scalar.addi c0_i32_909 v784
  v785.toNat
def k0_dev27 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_914 : BitVec 32 := 1#32
  let v794 : BitVec 32 := Scalar.xori v2 c1_i32_914
  let c1_i32_923 : BitVec 32 := 1#32
  let v795 : BitVec 32 := Scalar.muli v794 c1_i32_923
  let v796 : BitVec 32 := Scalar.addi c0_i32_924 v795
  v796.toNat
def k0_dev28 (d0 : Dev nD) : Nat :=
  let c0_i32_1263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1253 : BitVec 32 := 4#32
  let v1003 : BitVec 32 := Scalar.xori v2 c4_i32_1253
  let c1_i32_1262 : BitVec 32 := 1#32
  let v1004 : BitVec 32 := Scalar.muli v1003 c1_i32_1262
  let v1005 : BitVec 32 := Scalar.addi c0_i32_1263 v1004
  v1005.toNat
def k0_dev29 (d0 : Dev nD) : Nat :=
  let c0_i32_1314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1304 : BitVec 32 := 3#32
  let v1036 : BitVec 32 := Scalar.xori v2 c3_i32_1304
  let c1_i32_1313 : BitVec 32 := 1#32
  let v1037 : BitVec 32 := Scalar.muli v1036 c1_i32_1313
  let v1038 : BitVec 32 := Scalar.addi c0_i32_1314 v1037
  v1038.toNat
def k0_dev30 (d0 : Dev nD) : Nat :=
  let c0_i32_1365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1355 : BitVec 32 := 1#32
  let v1069 : BitVec 32 := Scalar.xori v2 c1_i32_1355
  let c1_i32_1364 : BitVec 32 := 1#32
  let v1070 : BitVec 32 := Scalar.muli v1069 c1_i32_1364
  let v1071 : BitVec 32 := Scalar.addi c0_i32_1365 v1070
  v1071.toNat
def k0_dev31 (d0 : Dev nD) : Nat :=
  let c0_i32_1416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1406 : BitVec 32 := 4#32
  let v1102 : BitVec 32 := Scalar.xori v2 c4_i32_1406
  let c1_i32_1415 : BitVec 32 := 1#32
  let v1103 : BitVec 32 := Scalar.muli v1102 c1_i32_1415
  let v1104 : BitVec 32 := Scalar.addi c0_i32_1416 v1103
  v1104.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Butterfly.Program.lean ====
/- The kernel's text over its own tables: four flows, each a band of columns, each running three rounds of
   pairwise exchanges over the cube of eight devices. The body is a barrier and a list of eighty-eight steps,
   each computing a starting partial product ("seed"), sending one ("send") or folding a received one in ("fold"). -/
module

public import proofs.«01_k».proof.Proof.Gen.KernelIdeal.Frame

@[expose] public section

set_option maxRecDepth 16384

noncomputable section

namespace Cert.Butterfly

open Idealize.ShloMosaic Idealize.SL.Sem
open Cert.KernelIdeal Cert.KernelIdeal.Gen

variable {F : FTy → Type} [FloatOps F]

/-! ## Tables -/

/-- The width of a flow's band of columns, and the band's first column. -/
def wid : Fin 4 → ℕ := ![640, 640, 640, 128]
def lo : Fin 4 → ℕ := ![0, 640, 1280, 1920]

/-- A message of a flow is named by the landing slot it fills: four of the first round, two of the second, one of the third. -/
abbrev Msg : Type := Fin 4 × Fin 7
def rnd : Fin 7 → ℕ := ![0, 0, 0, 0, 1, 1, 2]
def idx : Fin 7 → ℕ := ![0, 1, 2, 3, 0, 1, 0]

/-- The slot a message is sent from, and the slot the received message is folded into. -/
def sj : Fin 4 → Fin 7 → Fin 8 :=
  ![![3, 7, 1, 5, 6, 2, 4], ![6, 7, 2, 3, 5, 4, 1], ![5, 7, 4, 6, 3, 1, 2], ![3, 7, 2, 6, 5, 1, 4]]
def kj : Fin 4 → Fin 7 → Fin 8 :=
  ![![2, 6, 0, 4, 4, 0, 0], ![4, 5, 0, 1, 1, 0, 0], ![1, 3, 0, 2, 2, 0, 0], ![1, 5, 0, 4, 4, 0, 0]]

/-- The axis of the cube a message crosses, and the mask of device numbers along an axis. -/
def ax : Fin 4 → Fin 7 → Fin 3 :=
  ![![0, 0, 0, 0, 1, 1, 2], ![1, 1, 1, 1, 2, 2, 0], ![2, 2, 2, 2, 0, 0, 1], ![1, 1, 1, 1, 0, 0, 2]]
def mask : Fin 3 → ℕ := ![1, 3, 4]

/-- The Gray code: slot `j` of device `d` holds the partial product of the rows for device `d xor gray j`. -/
def gray : Fin 8 → Fin 8 := ![0, 1, 3, 2, 4, 5, 7, 6]

/-! ## Devices as the kernel computes them -/

/-- The device across axis `a`, by the kernel's own word operations. -/
def pword (a : Fin 3) (d : Dev nD) : ℕ :=
  (Scalar.addi 0#32 (Scalar.muli (Scalar.xori (Scalar.remsi (Scalar.divsi (Dev.word d) 1#32) 8#32) (BitVec.ofNat 32 (mask a))) 1#32)).toNat
theorem pword_lt : ∀ (a : Fin 3) (d : Dev nD), pword a d < nD := by decide +kernel
def prt (a : Fin 3) (d : Dev nD) : Dev nD := ⟨pword a d, pword_lt a d⟩

/-! ## Shapes, buffers and semaphores of a flow -/

abbrev SH (n w : ℕ) : Shape := ⟨3, ![n, 256, w]⟩
abbrev SM (w : ℕ) : Shape := ⟨2, ![256, w]⟩

theorem acc_inb (f : Fin 4) (j : Fin 8) : ∀ a, (![j.val, 0, 0] : Fin 3 → Nat) a + (SH 1 (wid f)).size a ≤ (SH 8 (wid f)).size a := by
  revert f j; decide
theorem land_inb (f : Fin 4) (k : Fin 7) : ∀ a, (![k.val, 0, 0] : Fin 3 → Nat) a + (SH 1 (wid f)).size a ≤ (SH 7 (wid f)).size a := by
  revert f k; decide
theorem band_inb (f : Fin 4) : ∀ a, (![0, lo f] : Fin 2 → Nat) a + (SM (wid f)).size a ≤ S256x2048.size a := by
  revert f; decide
theorem sem_inb (f : Fin 4) (k : Fin 7) : ∀ a, (![f.val, rnd k, idx k] : Fin 3 → Nat) a + S1x1x1.size a ≤ S4x3x4.size a := by
  revert f k; decide
theorem h_SH (f : Fin 4) : 0 < (SH 1 (wid f)).numel := by revert f; decide
theorem h_SM (f : Fin 4) : 0 < (SM (wid f)).numel := by revert f; decide
theorem casts_down (f : Fin 4) : (SH 1 (wid f)).ShapeCasts (SM (wid f)) := by revert f; decide
theorem casts_up (f : Fin 4) : (SM (wid f)).ShapeCasts (SH 1 (wid f)) := by revert f; decide
theorem casts_same (f : Fin 4) : (SM (wid f)).ShapeCasts (SM (wid f)) := by revert f; decide
theorem squeezes (f : Fin 4) : (SH 1 (wid f)).Squeezes (SM (wid f)) := by revert f; decide
theorem dot_wf (f : Fin 4) : DotDims.WF S256x256 (SM (wid f)) (SM (wid f)) [1] [0] [0] [1] [] [] := by revert f; decide

/-- The product of a 256 by 256 block with a 256-row band, contracting the middle axis. -/
def dims (f : Fin 4) : DotDims S256x256 (SM (wid f)) (SM (wid f)) where
  lhsContracting := [1]
  rhsContracting := [0]
  lhsNonContracting := [0]
  rhsNonContracting := [1]
  lhsBatch := []
  rhsBatch := []
  wf := dot_wf f

abbrev xM : Memref sig .tc .vmem S2048x256 .f32 := Memref.whole cc0_stg0_0
abbrev wM : Memref sig .tc .vmem S256x2048 .f32 := Memref.whole cc0_stg1_0
abbrev oM : Memref sig .tc .vmem S256x2048 .f32 := Memref.whole cc0_stg2_0

def accM : (f : Fin 4) → Memref sig .tc .vmem (SH 8 (wid f)) .f32
  | 0 => Memref.whole cc0_scratch0
  | 1 => Memref.whole cc0_scratch1
  | 2 => Memref.whole cc0_scratch2
  | 3 => Memref.whole cc0_scratch3
def landM : (f : Fin 4) → Memref sig .tc .vmem (SH 7 (wid f)) .f32
  | 0 => Memref.whole cc0_scratch4
  | 1 => Memref.whole cc0_scratch5
  | 2 => Memref.whole cc0_scratch6
  | 3 => Memref.whole cc0_scratch7

/-- The rectangles of one slot, of one band of `w`'s or the result's columns, and of the rows a seed reads. -/
abbrev accR (f : Fin 4) (j : Fin 8) : Rect (SH 8 (wid f)) := Rect.unit (s := SH 8 (wid f)) ![j.val, 0, 0] (SH 1 (wid f)).size (acc_inb f j)
abbrev landR (f : Fin 4) (k : Fin 7) : Rect (SH 7 (wid f)) := Rect.unit (s := SH 7 (wid f)) ![k.val, 0, 0] (SH 1 (wid f)).size (land_inb f k)
abbrev bandR (f : Fin 4) : Rect S256x2048 := Rect.unit (s := S256x2048) ![0, lo f] (SM (wid f)).size (band_inb f)
abbrev rowsR (d : Dev nD) (j : Fin 8) : Rect S2048x256 :=
  Rect.unit (s := S2048x256) (k0_off1 d (BitVec.ofNat 32 (gray j).val)) S256x256.size (k0_off1_inb d (gray j))

/-- One slot as a buffer of its own. -/
abbrev accS (f : Fin 4) (j : Fin 8) : Memref sig .tc .vmem (SM (wid f)) .f32 :=
  ((accM f).slice (accR f j) (fun _ => rfl)).squeeze (SM (wid f)) (squeezes f)
abbrev landS (f : Fin 4) (k : Fin 7) : Memref sig .tc .vmem (SM (wid f)) .f32 :=
  ((landM f).slice (landR f k) (fun _ => rfl)).squeeze (SM (wid f)) (squeezes f)

/-- A message's own send and receive semaphores. -/
abbrev sndSem (m : Msg) := ((cc0_scratch8.slice (Rect.unit (s := S4x3x4) ![m.1.val, rnd m.2, idx m.2] S1x1x1.size (sem_inb m.1 m.2))).squeeze S_ squeezes_S1x1x1_S_).sem
abbrev rcvSem (m : Msg) := ((cc0_scratch9.slice (Rect.unit (s := S4x3x4) ![m.1.val, rnd m.2, idx m.2] S1x1x1.size (sem_inb m.1 m.2))).squeeze S_ squeezes_S1x1x1_S_).sem

abbrev bar := (SemArray.scalar (sig.barrier 0 rfl) : Sems sig S_).sem

/-! ## The values a step stores -/

/-- A seed's value: the product of the rows with the band, onto zero. -/
def seedV (f : Fin 4) (vx : Vec F S256x256 .f32) (vw : Vec F (SM (wid f)) .f32) : FVec F (SM (wid f)) .f32 :=
  matmul (dims f) none (shapeCast S256x256 vx shapeCasts_S256x256_S256x256) (shapeCast (SM (wid f)) vw (casts_same f))
    (constant (SM (wid f)) .f32 0x00000000#32)
/-- A fold's value: the kept slot plus the received one. -/
def foldV (f : Fin 4) (va vl : Vec F (SH 1 (wid f)) .f32) : FVec F (SM (wid f)) .f32 :=
  addf (shapeCast (SM (wid f)) va (casts_down f)) (shapeCast (SM (wid f)) vl (casts_down f))
def up (f : Fin 4) (v : FVec F (SM (wid f)) .f32) : FVec F (SH 1 (wid f)) .f32 := shapeCast (SH 1 (wid f)) v (casts_up f)

/-! ## The steps -/

/-- The barrier: one unit to the device across each axis, then a wait for three. -/
def barrierP (d : Dev nD) : Prog (TpuEff nD τ sig (Elt F) Λ₀ .tc) PUnit := do
  semSignalWord (prt 0 d) bar 1#32
  semSignalWord (prt 1 d) bar 1#32
  semSignalWord (prt 2 d) bar 1#32
  semWaitWord bar 3#32

def seedP (d : Dev nD) (f : Fin 4) (j : Fin 8) : Prog (TpuEff nD τ sig (Elt F) Λ₀ .tc) PUnit := do
  let vx : Vec F S256x256 .f32 ← Prog.lift (.load xM (rowsR d j).toLoadRect (View.loadsAt_vmem h_S256x256))
  let vw : Vec F (SM (wid f)) .f32 ← Prog.lift (.load wM (bandR f).toLoadRect (View.loadsAt_vmem (h_SM f)))
  let _ : Vec F (SH 1 (wid f)) .f32 ← Prog.lift (.load (accM f) (accR f j).toLoadRect (View.loadsAt_vmem (h_SH f)))
  Prog.lift (.store (accM f) (accR f j) (up f (seedV f vx vw)) Finset.univ (View.stores_vmem_bits_univ (h_SH f) rfl) (.inl rfl))

def sendP (d : Dev nD) (f : Fin 4) (k : Fin 7) : Prog (TpuEff nD τ sig (Elt F) Λ₀ .tc) PUnit :=
  Prog.lift (.enqueueDma (accS f (sj f k)) (.remote (Dev.tc (prt (ax f k) d)) (landS f k) (.dma (sndSem (f, k)))) (.dma (rcvSem (f, k)))
    ((View.wordExact_bits rfl).reshape _ _) ((View.wordExact_bits rfl).reshape _ _) ⟨⟨rfl, Or.inl rfl⟩, trivial⟩)

def foldP (f : Fin 4) (k : Fin 7) : Prog (TpuEff nD τ sig (Elt F) Λ₀ .tc) PUnit := do
  Prog.lift (.waitDma2 (sndSem (f, k)) (landS f k) (accS f (sj f k)) ((View.wordExact_bits rfl).reshape _ _) ((View.wordExact_bits rfl).reshape _ _))
  Prog.lift (.waitDma2 (rcvSem (f, k)) (accS f (sj f k)) (landS f k) ((View.wordExact_bits rfl).reshape _ _) ((View.wordExact_bits rfl).reshape _ _))
  let va : Vec F (SH 1 (wid f)) .f32 ← Prog.lift (.load (accM f) (accR f (kj f k)).toLoadRect (View.loadsAt_vmem (h_SH f)))
  let vl : Vec F (SH 1 (wid f)) .f32 ← Prog.lift (.load (landM f) (landR f k).toLoadRect (View.loadsAt_vmem (h_SH f)))
  if k = 6 then do
    let _ : Vec F (SM (wid f)) .f32 ← Prog.lift (.load oM (bandR f).toLoadRect (View.loadsAt_vmem (h_SM f)))
    Prog.lift (.store oM (bandR f) (foldV f va vl) Finset.univ (View.stores_vmem_bits_univ (h_SM f) rfl) (.inl rfl))
  else do
    let _ : Vec F (SH 1 (wid f)) .f32 ← Prog.lift (.load (accM f) (accR f (kj f k)).toLoadRect (View.loadsAt_vmem (h_SH f)))
    Prog.lift (.store (accM f) (accR f (kj f k)) (up f (foldV f va vl)) Finset.univ (View.stores_vmem_bits_univ (h_SH f) rfl) (.inl rfl))

/-- A step of the body after the barrier. -/
inductive Step : Type
  | seed (f : Fin 4) (j : Fin 8)
  | send (f : Fin 4) (k : Fin 7)
  | fold (f : Fin 4) (k : Fin 7)

def stepP (d : Dev nD) : Step → Prog (TpuEff nD τ sig (Elt F) Λ₀ .tc) PUnit
  | .seed f j => seedP d f j
  | .send f k => sendP d f k
  | .fold f k => foldP f k

/-- The steps in the kernel's order. -/
def steps : List Step :=
  [.seed 0 3, .send 0 0, .seed 2 5, .send 2 0, .seed 1 6, .send 1 0, .seed 3 3, .send 3 0,
   .seed 0 7, .send 0 1, .seed 2 7, .send 2 1, .seed 1 7, .send 1 1, .seed 3 7, .send 3 1,
   .seed 0 1, .send 0 2, .seed 2 4, .send 2 2, .seed 1 2, .send 1 2, .seed 3 2, .send 3 2,
   .seed 0 5, .send 0 3, .seed 2 6, .send 2 3, .seed 1 3, .send 1 3, .seed 3 6, .send 3 3,
   .seed 0 2, .seed 0 6, .seed 0 0, .seed 0 4, .seed 2 1, .seed 2 3, .seed 2 0, .seed 2 2,
   .seed 1 4, .seed 1 5, .seed 1 0, .seed 1 1, .seed 3 1, .seed 3 5, .seed 3 0, .seed 3 4,
   .fold 0 0, .fold 0 1, .send 0 4, .send 0 5, .fold 2 0, .fold 2 1, .send 2 4, .send 2 5,
   .fold 1 0, .fold 1 1, .send 1 4, .send 1 5, .fold 3 0, .fold 3 1, .send 3 4, .send 3 5,
   .fold 0 2, .fold 0 3, .fold 2 2, .fold 2 3, .fold 1 2, .fold 1 3, .fold 3 2, .fold 3 3,
   .fold 0 4, .send 0 6, .fold 2 4, .send 2 6, .fold 1 4, .send 1 6, .fold 3 4, .send 3 6,
   .fold 0 5, .fold 2 5, .fold 1 5, .fold 3 5, .fold 0 6, .fold 2 6, .fold 1 6, .fold 3 6]

def runP (d : Dev nD) : List Step → Prog (TpuEff nD τ sig (Elt F) Λ₀ .tc) PUnit
  | [] => pure ⟨⟩
  | s :: ss => stepP d s >>= fun _ => runP d ss

/-- The body in the words above. -/
def bodyP : Prog (TpuEff nD τ sig (Elt F) Λ₀ .tc) PUnit := do
  let d : Dev nD ← Prog.lift .deviceId
  barrierP d
  runP d steps

end Cert.Butterfly

end
-- ==== Proof.Butterfly.Protocol.lean ====
/- The protocol of the exchanges. Contents: what each slot holds after each round. Cells: a device's barrier, and one
   send and one receive semaphore per message. Schedule: what each cell's units hand to the device that waits on it.
   Levels: what a device may still owe when it waits. -/
module

public import proofs.«01_k».proof.Proof.Butterfly.Program

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's copy beside the protocol's, whose duties are named by the three axes -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The cube -/

/-- The axis a flow crosses in each round, and a slot's partner across an axis. -/
def ord (f : Fin 4) (r : ℕ) : Fin 3 := (![![0, 1, 2], ![1, 2, 0], ![2, 0, 1], ![1, 0, 2]] : Fin 4 → Fin 3 → Fin 3) f (Fin.ofNat 3 r)
def flip (a : Fin 3) (j : Fin 8) : Fin 8 := j ^^^ (![1, 2, 4] : Fin 3 → Fin 8) a

theorem prt_prt : ∀ (a : Fin 3) (d : Dev nD), prt a (prt a d) = d := by decide +kernel
theorem ax_ord : ∀ (f : Fin 4) (k : Fin 7), ax f k = ord f (rnd k) := by decide
theorem sj_flip : ∀ (f : Fin 4) (k : Fin 7), sj f k = flip (ord f (rnd k)) (kj f k) := by decide
theorem sj_ne_kj : ∀ (f : Fin 4) (k : Fin 7), sj f k ≠ kj f k := by decide
theorem kj_last : ∀ f : Fin 4, kj f 6 = 0 := by decide
theorem rnd_last : ∀ k : Fin 7, k = 6 → rnd k = 2 := by decide

/-- Crossing an axis, as a permutation of the devices. -/
def cross (a : Fin 3) : Dev nD ≃ Dev nD := ⟨prt a, prt a, prt_prt a, prt_prt a⟩

/-! ## Contents -/

/-- Device `c`'s arguments as its staging buffers hold them. -/
def xin (c : Dev nD) : (cc0_stg0_0 : Ref sig .tc).ty.Contents (Elt F) := iblk m c (0 : Fin 3) t0_0
def win (c : Dev nD) : (cc0_stg1_0 : Ref sig .tc).ty.Contents (Elt F) := iblk m c (1 : Fin 3) t0_0

/-- The rows and the band a seed reads. -/
def rows (c : Dev nD) (j : Fin 8) : Vec F S256x256 .f32 := (xM : Memref sig .tc .vmem S2048x256 .f32).view.readAt (Elt F) (rowsR c j).toLoadRect (xin m c)
def band (c : Dev nD) (f : Fin 4) : Vec F (SM (wid f)) .f32 := (wM : Memref sig .tc .vmem S256x2048 .f32).view.readAt (Elt F) (bandR f).toLoadRect (win m c)

/-- What slot `j` of flow `f` holds on device `c` after its first `r` rounds: the seed, then after each round the sum with
    the partner's slot across the round's axis. -/
def V (f : Fin 4) : ℕ → Dev nD → Fin 8 → FVec F (SM (wid f)) .f32
  | 0, c, j => seedV f (rows m c j) (band m c f)
  | r + 1, c, j => addf (V f r c j) (V f r (prt (ord f r) c) (flip (ord f r) j))

/-- The fold of a message into its kept slot is the slot's next contents. -/
theorem V_fold (f : Fin 4) (k : Fin 7) (c : Dev nD) :
    addf (V m f (rnd k) c (kj f k)) (V m f (rnd k) (prt (ax f k) c) (sj f k)) = V m f (rnd k + 1) c (kj f k) := by
  rw [ax_ord, sj_flip]; rfl

/-! ## Cells -/

/-- A device's cells: its barrier (`none`), a message's send cell (`false`) and receive cell (`true`). -/
abbrev Cell : Type := Option (Bool × Msg)
def csem : Cell → SemLoc sig
  | none => .reg bar
  | some (false, k) => .dma (sndSem k)
  | some (true, k) => .dma (rcvSem k)

theorem csem_injective : Function.Injective csem := by decide +kernel
def csemE : Cell ↪ SemLoc sig := ⟨csem, csem_injective⟩

abbrev kcell (ck : Dev nD × Cell) : GSem nD τ sig := ((ck.1 : Thread nD τ), csem ck.2)
abbrev barCell (c : Dev nD) : GSem nD τ sig := kcell (c, none)
abbrev sndCell (c : Dev nD) (k : Msg) : GSem nD τ sig := kcell (c, some (false, k))
abbrev rcvCell (c : Dev nD) (k : Msg) : GSem nD τ sig := kcell (c, some (true, k))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which cell of its device a semaphore is. -/
def kind (g : GSem nD τ sig) : Option Cell := preimage? csemE g.2
theorem kind_kcell (ck : Dev nD × Cell) : kind (kcell ck) = some ck.2 := preimage?_emb csemE ck.2

/-- The units of a message: the credit of its landing slot. -/
abbrev N (k : Msg) : ℕ := (landS k.1 k.2).view.dmaCredit
theorem N_pos (k : Msg) : 0 < N k := View.dmaCredit_pos _ (h_SM k.1)
theorem N_snd (k : Msg) : (accS k.1 (sj k.1 k.2)).view.dmaCredit = N k := by
  obtain ⟨f, k⟩ := k; fin_cases f <;> rfl

/-! ## What a slot's owner holds -/

/-- Slot `j` of flow `f` on device `c` at contents `X`; the landing slot of message `k` likewise. -/
def accAt (c : Dev nD) (f : Fin 4) (j : Fin 8) (X : FVec F (SM (wid f)) .f32) : sProp 𝕄 := owns (c : Thread nD τ) (accS f j) fullShare X
def landAt (c : Dev nD) (k : Msg) (X : FVec F (SM (wid k.1)) .f32) : sProp 𝕄 := owns (c : Thread nD τ) (landS k.1 k.2) fullShare X
def landAny (c : Dev nD) (k : Msg) : sProp 𝕄 := iprop(∃ X, landAt c k X)

instance accAt_storable (c : Dev nD) (f) (j) (X) : BI.Storable (upEmb : UEmb _ 𝕄) (accAt (F := F) c f j X) := by unfold accAt; infer_instance
instance landAt_storable (c : Dev nD) (k) (X) : BI.Storable (upEmb : UEmb _ 𝕄) (landAt (F := F) c k X) := by unfold landAt; infer_instance
instance landAny_storable (c : Dev nD) (k) : BI.Storable (upEmb : UEmb _ 𝕄) (landAny (F := F) c k) := by unfold landAny; infer_instance

/-! ## The schedule -/

/-- What the device across axis `a` hands `c` at the barrier: its landing slots of the messages that cross `a`. -/
def barPay (c : Dev nD) (a : Fin 3) : sProp 𝕄 :=
  bigSep Finset.univ fun k : Msg => if ax k.1 k.2 = a then landAny (prt a c) k else iprop(emp)
/-- A message's send cell gives its slot back; its receive cell the landing slot at what the partner sent. -/
def sndPay (c : Dev nD) (k : Msg) : sProp 𝕄 := accAt c k.1 (sj k.1 k.2) (V m k.1 (rnd k.2) c (sj k.1 k.2))
def rcvPay (c : Dev nD) (k : Msg) : sProp 𝕄 := landAt c k (V m k.1 (rnd k.2) (prt (ax k.1 k.2) c) (sj k.1 k.2))

def pay (c : Dev nD) (a : Fin 3) : Option Cell → sProp 𝕄
  | none => iprop(emp)
  | some none => barPay c a
  | some (some (false, k)) => sndPay m c k
  | some (some (true, k)) => rcvPay m c k
def units : Option Cell → ℕ
  | none => 1
  | some none => 1
  | some (some (_, k)) => N k
def duts : Option Cell → Finset (Fin 3)
  | some none => Finset.univ
  | _ => {0}

theorem units_pos (k : Option Cell) : 0 < units k := by
  rcases k with _ | _ | ⟨_, k⟩
  · exact Nat.one_pos
  · exact Nat.one_pos
  · exact N_pos k

instance barPay_storable (c : Dev nD) (a) : BI.Storable (upEmb : UEmb _ 𝕄) (barPay (F := F) c a) := by
  unfold barPay
  have h : ∀ k : Msg, BI.Storable (upEmb : UEmb _ 𝕄) (if ax k.1 k.2 = a then landAny (F := F) (prt a c) k else iprop(emp)) :=
    fun k => by split <;> infer_instance
  infer_instance
instance pay_storable (c : Dev nD) (a) (k) : BI.Storable (upEmb : UEmb _ 𝕄) (pay m c a k) := by
  rcases k with _ | _ | ⟨_ | _, k⟩ <;> unfold pay <;> (try unfold sndPay) <;> (try unfold rcvPay) <;> infer_instance

/-- One round: the barrier has a unit for each axis, every other cell its message's units. -/
def Rd : Rounds.Schedule (GSem nD τ sig) (Fin 3) 𝕄 where
  duties g r := if r = 0 then duts (kind g) else ∅
  amount g _ _ := units (kind g)
  payload g _ a := pay m g.1.1 a (kind g)
  amount_pos g _ _ _ := units_pos _
  unitless _ := False

instance Rd_storable (g : GSem nD τ sig) (r : ℕ) (a : Fin 3) : BI.Storable (upEmb : UEmb _ 𝕄) ((Rd (F := F) m).payload g r a) :=
  pay_storable m g.1.1 a (kind g)

section Sched
variable (c : Dev nD) (k : Msg)

theorem duties_bar : (Rd (F := F) m).duties (barCell c) 0 = Finset.univ := by
  dsimp only [Rd]; rw [if_pos rfl, kind_kcell]; rfl
theorem duties_msg (b : Bool) : (Rd (F := F) m).duties (kcell (c, some (b, k))) 0 = {0} := by
  dsimp only [Rd]; rw [if_pos rfl, kind_kcell]; rfl
theorem duties_later (g : GSem nD τ sig) : ∀ r, 1 ≤ r → (Rd (F := F) m).duties g r = ∅ :=
  fun r hr => by dsimp only [Rd]; rw [if_neg (by omega)]
theorem amount_bar (a : Fin 3) : (Rd (F := F) m).amount (barCell c) 0 a = 1 := by dsimp only [Rd]; rw [kind_kcell]; rfl
theorem amount_msg (b : Bool) (a : Fin 3) : (Rd (F := F) m).amount (kcell (c, some (b, k))) 0 a = N k := by dsimp only [Rd]; rw [kind_kcell]; rfl
theorem payload_bar (a : Fin 3) : (Rd (F := F) m).payload (barCell c) 0 a = barPay c a := by dsimp only [Rd]; rw [kind_kcell]; rfl
theorem payload_snd (a : Fin 3) : (Rd (F := F) m).payload (sndCell c k) 0 a = sndPay m c k := by dsimp only [Rd]; rw [kind_kcell]; rfl
theorem payload_rcv (a : Fin 3) : (Rd (F := F) m).payload (rcvCell c k) 0 a = rcvPay m c k := by dsimp only [Rd]; rw [kind_kcell]; rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_msg (b : Bool) : (Rd (F := F) m).expect (kcell (c, some (b, k))) 0 = N k := by
  unfold Schedule.expect Schedule.amountOf; rw [duties_msg, Finset.sum_singleton, amount_msg]

/-- A wait for the whole round of a cell gets the payloads of all its duties. -/
theorem rest_bar : bigSep ((Rd (F := F) m).duties (barCell c) 0 \ ∅) (fun a => (Rd (F := F) m).payload (barCell c) 0 a) = bigSep Finset.univ (barPay c) := by
  rw [Finset.sdiff_empty, duties_bar]; exact bigSep_congr fun a _ => payload_bar m c a
theorem rest_snd : bigSep ((Rd (F := F) m).duties (sndCell c k) 0 \ ∅) (fun a => (Rd (F := F) m).payload (sndCell c k) 0 a) = sndPay m c k := by
  rw [Finset.sdiff_empty, duties_msg, bigSep_singleton, payload_snd]
theorem rest_rcv : bigSep ((Rd (F := F) m).duties (rcvCell c k) 0 \ ∅) (fun a => (Rd (F := F) m).payload (rcvCell c k) 0 a) = rcvPay m c k := by
  rw [Finset.sdiff_empty, duties_msg, bigSep_singleton, payload_rcv]

end Sched

/-! ## Levels -/

/-- The barrier at 1, a message of round `r` at `2 + r`, send and staging semaphores at 0. -/
def levelOf : Option Cell → ℕ
  | some none => 1
  | some (some (true, k)) => 2 + rnd k.2
  | _ => 0
def L (g : GSem nD τ sig) : Finset Unit := if g.1.2 = .tc then {()} else ∅
def lv (g : GSem nD τ sig) (_ : Unit) : ℕ := levelOf (kind g)

theorem L_of_ne (g : GSem nD τ sig) (h : g.1.2 ≠ .tc) : L g = ∅ := if_neg h
theorem L_tc (c : Dev nD) (sm : SemLoc sig) : L ((c : Thread nD τ), sm) = {()} := if_pos rfl

/-- What a device owes the receive cells of its partners while the messages of `S` are not sent. -/
def owe (c : Dev nD) (S : Finset Msg) : CellTallies nD τ sig Unit := ∑ k ∈ S, tallyAt (rcvCell (prt (ax k.1 k.2) c) k) () (N k)
/-- and the barriers of the devices across the axes of `A`. -/
def oweBar (c : Dev nD) (A : Finset (Fin 3)) : CellTallies nD τ sig Unit := ∑ a ∈ A, tallyAt (barCell (prt a c)) () 1

theorem owe_pos {c : Dev nD} {S : Finset Msg} {g : GSem nD τ sig} {u : Unit} (h : 0 < owe c S g u) : ∃ k ∈ S, g = rcvCell (prt (ax k.1 k.2) c) k := by
  unfold owe at h
  rw [Finset.sum_apply, Finsupp.finset_sum_apply] at h
  obtain ⟨k, hk, h⟩ := Finset.exists_ne_zero_of_sum_ne_zero h.ne'
  refine ⟨k, hk, ?_⟩
  rw [tallyAt_apply] at h
  by_contra hn
  exact h (if_neg fun h' => hn h'.1)
theorem oweBar_pos {c : Dev nD} {A : Finset (Fin 3)} {g : GSem nD τ sig} {u : Unit} (h : 0 < oweBar c A g u) : ∃ a ∈ A, g = barCell (prt a c) := by
  unfold oweBar at h
  rw [Finset.sum_apply, Finsupp.finset_sum_apply] at h
  obtain ⟨k, hk, h⟩ := Finset.exists_ne_zero_of_sum_ne_zero h.ne'
  refine ⟨k, hk, ?_⟩
  rw [tallyAt_apply] at h
  by_contra hn
  exact h (if_neg fun h' => hn h'.1)

/-- A device may wait on a semaphore whose level is below every message it still has to send. -/
theorem mayWait_owe (c : Dev nD) (sm : SemLoc sig) (S : Finset Msg) (h : ∀ k ∈ S, levelOf (preimage? csemE sm) < 2 + rnd k.2) :
    (levAts L lv : sProp 𝕄) ⊢ MayWait (c : Thread nD τ) sm () (owe c S) :=
  MayOwe.of_cut (L := L) (lev := lv) (levelOf (preimage? csemE sm)) (fun p hp => by rw [Finset.mem_singleton.mp hp, L_tc]; exact Finset.mem_singleton_self _)
    (fun g u hg => by obtain ⟨k, -, rfl⟩ := owe_pos hg; exact Finset.mem_singleton_self _)
    (fun p hp => by rw [Finset.mem_singleton.mp hp]; exact le_rfl)
    (fun g u hg => by obtain ⟨k, hk, rfl⟩ := owe_pos hg; unfold lv; rw [kind_kcell]; exact h k hk)

/-- and on a staging semaphore whatever it owes at launch. -/
theorem mayWait_stage (c : Dev nD) (sm : SemLoc sig) (S : Finset Msg) (A : Finset (Fin 3)) (h : levelOf (preimage? csemE sm) = 0) :
    (levAts L lv : sProp 𝕄) ⊢ MayWait (c : Thread nD τ) sm () (owe c S + oweBar c A) := by
  have hor {g : GSem nD τ sig} {u : Unit} (hg : 0 < (owe c S + oweBar c A) g u) : (∃ k ∈ S, g = rcvCell (prt (ax k.1 k.2) c) k) ∨ ∃ a ∈ A, g = barCell (prt a c) := by
    rw [Pi.add_apply, Finsupp.add_apply] at hg
    rcases Nat.eq_zero_or_pos (owe c S g u) with h0 | h0
    · rw [h0, Nat.zero_add] at hg; exact Or.inr (oweBar_pos hg)
    · exact Or.inl (owe_pos h0)
  exact MayOwe.of_cut (L := L) (lev := lv) 0 (fun p hp => by rw [Finset.mem_singleton.mp hp, L_tc]; exact Finset.mem_singleton_self _)
    (fun g u hg => by rcases hor hg with ⟨k, -, rfl⟩ | ⟨a, -, rfl⟩ <;> exact Finset.mem_singleton_self _)
    (fun p hp => by rw [Finset.mem_singleton.mp hp]; exact h.le)
    (fun g u hg => by
      rcases hor hg with ⟨k, -, rfl⟩ | ⟨a, -, rfl⟩
      · unfold lv; rw [kind_kcell]; show 0 < 2 + rnd k.2; omega
      · unfold lv; rw [kind_kcell]; exact Nat.one_pos)

/-- Sending one message pays it off. -/
theorem owe_erase (c : Dev nD) {S : Finset Msg} {k : Msg} (hk : k ∈ S) :
    owe c S = owe c (S.erase k) + tallyAt (rcvCell (prt (ax k.1 k.2) c) k) () (N k) := (Finset.sum_erase_add S _ hk).symm
theorem oweBar_erase (c : Dev nD) {A : Finset (Fin 3)} {a : Fin 3} (ha : a ∈ A) :
    oweBar c A = oweBar c (A.erase a) + tallyAt (barCell (prt a c)) () 1 := (Finset.sum_erase_add A _ ha).symm

end Cert.Butterfly

end
-- ==== Proof.Butterfly.Slots.lean ====
/- One slot's rules: loading it, storing it, sending it to the device across an axis, and waiting for a message. -/
module

public import Idealize.ShloMosaic.Lib.Pipeline.Value
public import proofs.«01_k».proof.Proof.Butterfly.Protocol

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none
abbrev TProg (α : Type) : Type 1 := Prog (TpuEff nD τ sig (Elt F) Λ₀ .tc) α

/-- What a run of `p` on device `c` needs to end in `Q`. -/
abbrev wpc {α : Type} (c : Dev nD) (p : TProg (F := F) α) (Q : α → sProp 𝕄) : sProp 𝕄 :=
  wp frame (wpE (defs₀ (F := F)) 𝒱₀ (c : Thread nD τ) none) Set.univ p Q

section Squeezed

variable {sp : CoreSpace} {s t : Shape} {e : EltTy} (M : Memref sig .tc sp s e) (r : Rect s) (hr : ∀ a, r.stride a = 1)
  (h : r.shape.Squeezes t) (hd : r.shape.ShapeCasts t) (hu : t.ShapeCasts r.shape)

/-- A squeezed slice reads what its rectangle reads, reshaped, -/
theorem read_squeezed (f : M.view.ty.Contents (Elt F)) :
    ((M.slice r hr).squeeze t h).view.read (Elt F) f = shapeCast t ((M.access r).read (Elt F) f) hd := rfl

/-- and its elements are the rectangle's. -/
theorem set_squeezed : ((M.slice r hr).squeeze t h).view.set = (M.access r).set := View.set_reshape _ _

include hd hu in
/-- Loading the rectangle of an owned squeezed slice gives its contents, reshaped. -/
theorem wp_load_squeezed {α : Type} {Q : α → sProp 𝕄} (c : Dev nD) {hl : M.view.LoadsAt r.toLoadRect} (q : PosShare TreeShare) (X : t.Idx → Elt F e)
    (k : (r.shape.Idx → Elt F e) → TProg (F := F) α) :
    owns (c : Thread nD τ) ((M.slice r hr).squeeze t h) q X
      ⊢ iprop((owns (c : Thread nD τ) ((M.slice r hr).squeeze t h) q X -∗ wpc c (k (shapeCast r.shape X hu)) Q)
          -∗ wpc c (.op (.load M r.toLoadRect hl) k) Q) := by
  unfold owns
  iintro ⟨%f, %hf, H⟩ Hk
  iapply (wp_load_rect 𝒱₀ (c : Thread nD τ) none Set.univ (m := M) (r := r) (hl := hl) (k := k) (f := f) (set_squeezed M r hr h).ge) $$ H
  iintro H
  have hv : (M.access r).read (Elt F) f = shapeCast r.shape X hu := by
    rw [← hf, read_squeezed M r hr h hd f, shapeCast_shapeCast]
  rw [← hv]
  iapply Hk
  iexists f
  isplitr; · ipureintro; exact hf
  iexact H

include hd hu in
/-- Storing into the rectangle of an owned squeezed slice makes its contents what was stored, reshaped. -/
theorem wp_store_squeezed {α : Type} {Q : α → sProp 𝕄} (c : Dev nD) (X : t.Idx → Elt F e) (v : t.Idx → Elt F e) {w : r.shape.Idx → Elt F e}
    (hw : w = shapeCast r.shape v hu) {hx : (M.access r).Stores Finset.univ} {hm : Finset.univ = Finset.univ ∨ ∀ a, r.stride a = 1}
    (k : PUnit → TProg (F := F) α) :
    owns (c : Thread nD τ) ((M.slice r hr).squeeze t h) fullShare X
      ⊢ iprop((owns (c : Thread nD τ) ((M.slice r hr).squeeze t h) fullShare v -∗ wpc c (k ⟨⟩) Q)
          -∗ wpc c (.op (.store M r w Finset.univ hx hm) k) Q) := by
  unfold owns
  iintro ⟨%f, %hf, H⟩ Hk
  iapply (wp_store 𝒱₀ (c : Thread nD τ) none Set.univ (m := M) (r := r) (w := w) (Mk := Finset.univ) (hx := hx) (hm := hm) (k := k) (f := f)
    (set_squeezed M r hr h).ge) $$ H
  iintro H
  iapply Hk
  iexists ((M.access r).write (Elt F) f w Finset.univ)
  isplitr
  · ipureintro
    refine (read_squeezed M r hr h hd _).trans ?_
    rw [View.read_write_univ, hw, shapeCast_shapeCast]
  iexact H

end Squeezed

/-! ## The slots -/

variable (c : Dev nD)

theorem wp_load_acc {α : Type} {Q : α → sProp 𝕄} (f : Fin 4) (j : Fin 8) (X : FVec F (SM (wid f)) .f32) {hl : (accM f).view.LoadsAt (accR f j).toLoadRect}
    (k : Vec F (SH 1 (wid f)) .f32 → TProg (F := F) α) :
    accAt c f j X ⊢ iprop((accAt c f j X -∗ wpc c (k (up f X)) Q) -∗ wpc c (.op (.load (accM f) (accR f j).toLoadRect hl) k) Q) :=
  wp_load_squeezed (accM f) (accR f j) (fun _ => rfl) (squeezes f) (casts_down f) (casts_up f) c fullShare X k

theorem wp_load_land {α : Type} {Q : α → sProp 𝕄} (m : Msg) (X : FVec F (SM (wid m.1)) .f32) {hl : (landM m.1).view.LoadsAt (landR m.1 m.2).toLoadRect}
    (k : Vec F (SH 1 (wid m.1)) .f32 → TProg (F := F) α) :
    landAt c m X ⊢ iprop((landAt c m X -∗ wpc c (k (up m.1 X)) Q) -∗ wpc c (.op (.load (landM m.1) (landR m.1 m.2).toLoadRect hl) k) Q) :=
  wp_load_squeezed (landM m.1) (landR m.1 m.2) (fun _ => rfl) (squeezes m.1) (casts_down m.1) (casts_up m.1) c fullShare X k

theorem wp_store_acc {α : Type} {Q : α → sProp 𝕄} (f : Fin 4) (j : Fin 8) (X v : FVec F (SM (wid f)) .f32) {hx : ((accM f).access (accR f j)).Stores Finset.univ}
    {hm : Finset.univ = Finset.univ ∨ ∀ a, (accR f j).stride a = 1} (k : PUnit → TProg (F := F) α) :
    accAt c f j X ⊢ iprop((accAt c f j v -∗ wpc c (k ⟨⟩) Q) -∗ wpc c (.op (.store (accM f) (accR f j) (up f v) Finset.univ hx hm) k) Q) :=
  wp_store_squeezed (accM f) (accR f j) (fun _ => rfl) (squeezes f) (casts_down f) (casts_up f) c X v rfl k

/-- The fold of two loaded slots is the sum of their contents. -/
theorem foldV_up (f : Fin 4) (X Y : FVec F (SM (wid f)) .f32) : foldV f (up f X) (up f Y) = addf X Y := by
  unfold foldV up; rw [shapeCast_shapeCast, shapeCast_shapeCast]

/-! ## Messages -/

variable (m : (ℓ : Loc nD τ sig) → Buf (Elt F) ℓ) (K : Dev nD × Cell → ℕ)

/-- The partner's receive cell gets the slot's contents as sent. -/
theorem rcvPay_cross (k : Msg) : rcvPay m (prt (ax k.1 k.2) c) k = landAt (prt (ax k.1 k.2) c) k (V m k.1 (rnd k.2) c (sj k.1 k.2)) := by
  unfold rcvPay; rw [prt_prt]

/-- A send: the slot at its round's contents and the partner's landing slot go, the credit of the send cell comes, and the
    debt to the partner's receive cell is paid. -/
theorem wp_sendP (k : Msg) (X : FVec F (SM (wid k.1)) .f32) {S : Finset Msg} (hS : k ∈ S) (W : Waits sig Unit) :
    iprop(cellInv ER (Rd m) (K (c, some (false, k))) (sndCell c k)
        ∗ cellInv ER (Rd m) (K (prt (ax k.1 k.2) c, some (true, k))) (rcvCell (prt (ax k.1 k.2) c) k)
        ∗ accAt c k.1 (sj k.1 k.2) (V m k.1 (rnd k.2) c (sj k.1 k.2)) ∗ landAt (prt (ax k.1 k.2) c) k X
        ∗ owes (c : Thread nD τ) (owe c S) W
        ∗ dutyTok ER (sndCell c k) 0 0 ∗ reached ER (sndCell c k) 0
        ∗ dutyTok ER (rcvCell (prt (ax k.1 k.2) c) k) 0 0 ∗ reached ER (rcvCell (prt (ax k.1 k.2) c) k) 0)
      ⊢ wpc c (sendP (F := F) c k.1 k.2) fun _ => iprop(cred (tallyAt (sndCell c k) () (N k)) ∗ owes (c : Thread nD τ) (owe c (S.erase k)) W) := by
  unfold accAt landAt owns
  iintro ⟨HI, HJ, ⟨%f, %hf, Hsrc⟩, ⟨%g, %hg, Hdst⟩, HO, Ht, Hr, Ht', Hr'⟩
  unfold sendP
  simp only [Prog.lift]
  iapply (Rounds.wp_send_pointsTo 𝒱₀ ER (Rd m) (c : Thread nD τ) none (κ₁ := K (c, some (false, k)))
    (κ₂ := K (prt (ax k.1 k.2) c, some (true, k))) (r₁ := 0) (r₂ := 0) (d₁ := 0) (d₂ := 0) (fs := f) (fd := g)
    (by rw [duties_msg]; exact Finset.mem_singleton_self _) (by rw [duties_msg]; exact Finset.mem_singleton_self _)
    () () (N k) rfl (amount_msg m c k false 0) (amount_msg m (prt (ax k.1 k.2) c) k true 0) (owe c (S.erase k)) (owe_erase c hS) (W := W)
    (by
      rw [payload_snd]; unfold sndPay accAt; rw [← hf]
      exact owns_intro (c : Thread nD τ) (accS k.1 (sj k.1 k.2)) fullShare f)
    (by
      rw [payload_rcv, rcvPay_cross, ← hf]; unfold landAt
      refine (owns_intro ((prt (ax k.1 k.2) c : Dev nD) : Thread nD τ) (landS k.1 k.2) fullShare _).trans ?_
      rw [View.read_write_univ])) $$ [HI HJ Hsrc Hdst HO Ht Hr Ht' Hr']
  · isplitl [HI]; · iexact HI
    isplitl [HJ]; · iexact HJ
    isplitl [Hsrc]; · iexact Hsrc
    isplitl [Hdst]; · iexact Hdst
    isplitl [HO]; · iexact HO
    isplitl [Ht]; · iexact Ht
    isplitl [Hr]; · iexact Hr
    isplitl [Ht'] <;> iassumption
  iintro H
  rw [wp_ret]; imodintro
  iexact H

/-- The wait on a message's send cell: its slot comes back at what it held. -/
theorem wp_wait_snd {α : Type} {Q : α → sProp 𝕄} (k : Msg) {S : Finset Msg} (W : Waits sig Unit) {h₁ : (landS k.1 k.2).view.WordExact} {h₂ : (accS k.1 (sj k.1 k.2)).view.WordExact}
    (p : PUnit → TProg (F := F) α) :
    iprop(cellInv ER (Rd m) (K (c, some (false, k))) (sndCell c k) ∗ levAts L lv ∗ cred (tallyAt (sndCell c k) () (N k))
        ∗ owes (c : Thread nD τ) (owe c S) W ∗ atPos ER (sndCell c k) 0 ∅ 0)
      ⊢ iprop(((∃ W, owes (c : Thread nD τ) (owe c S) W) -∗ atPos ER (sndCell c k) 1 ∅ 0 -∗ sndPay m c k -∗ wpc c (p ⟨⟩) Q)
          -∗ wpc c (.op (.waitDma2 (sndSem k) (landS k.1 k.2) (accS k.1 (sj k.1 k.2)) h₁ h₂) p) Q) := by
  iintro ⟨HI, Hlev, Hc, HO, Hat⟩ Hk
  iapply (Rounds.wp_wait_rest_token 𝒱₀ ER (Rd m) (c : Thread nD τ) none (κ := K (c, some (false, k))) (sm := csem (some (false, k)))
      (wpE_waitDma2_eq 𝒱₀ (c : Thread nD τ) none Set.univ) (Set.mem_univ _) () (O := owe c S) (W := W) (R := 0) (m := 0) (T := ∅)
      ((Nat.zero_add _).trans ((N_snd k).trans (expect_msg m c k false).symm))) $$ [HI Hlev Hc HO Hat]
  · isplitl [HI]; · iexact HI
    isplitl [Hc]; · rw [N_snd]; iexact Hc
    isplitl [HO]; · iexact HO
    isplitl [Hlev]
    · iapply (mayWait_owe c (csem (some (false, k))) S fun k' _ => by
        rw [show preimage? csemE (csem (some (false, k))) = some (some (false, k)) from preimage?_emb csemE (some (false, k))]
        show 0 < 2 + rnd k'.2
        omega)
      iexact Hlev
    iexact Hat
  iintro ⟨HO, Hat, -, Hp⟩
  ihave Hp := (Entails.of_eq (rest_snd m c k)) $$ Hp
  iapply Hk $$ [HO] Hat Hp
  iexists _; iexact HO

/-- The wait on a message's receive cell, when every message still to be sent is of a later round: the landing slot comes back
    at what the partner sent. -/
theorem wp_wait_rcv {α : Type} {Q : α → sProp 𝕄} (k : Msg) {S : Finset Msg} (hS : ∀ k' ∈ S, rnd k.2 < rnd k'.2) (W : Waits sig Unit)
    {h₁ : (accS k.1 (sj k.1 k.2)).view.WordExact} {h₂ : (landS k.1 k.2).view.WordExact} (p : PUnit → TProg (F := F) α) :
    iprop(cellInv ER (Rd m) (K (c, some (true, k))) (rcvCell c k) ∗ levAts L lv ∗ cred (tallyAt (rcvCell c k) () (N k))
        ∗ owes (c : Thread nD τ) (owe c S) W ∗ atPos ER (rcvCell c k) 0 ∅ 0)
      ⊢ iprop(((∃ W, owes (c : Thread nD τ) (owe c S) W) -∗ atPos ER (rcvCell c k) 1 ∅ 0 -∗ rcvPay m c k -∗ wpc c (p ⟨⟩) Q)
          -∗ wpc c (.op (.waitDma2 (rcvSem k) (accS k.1 (sj k.1 k.2)) (landS k.1 k.2) h₁ h₂) p) Q) := by
  iintro ⟨HI, Hlev, Hc, HO, Hat⟩ Hk
  iapply (Rounds.wp_wait_rest_token 𝒱₀ ER (Rd m) (c : Thread nD τ) none (κ := K (c, some (true, k))) (sm := csem (some (true, k)))
      (wpE_waitDma2_eq 𝒱₀ (c : Thread nD τ) none Set.univ) (Set.mem_univ _) () (O := owe c S) (W := W) (R := 0) (m := 0) (T := ∅)
      ((Nat.zero_add _).trans (expect_msg m c k true).symm)) $$ [HI Hlev Hc HO Hat]
  · isplitl [HI]; · iexact HI
    isplitl [Hc]; · iexact Hc
    isplitl [HO]; · iexact HO
    isplitl [Hlev]
    · iapply (mayWait_owe c (csem (some (true, k))) S fun k' hk' => by
        rw [show preimage? csemE (csem (some (true, k))) = some (some (true, k)) from preimage?_emb csemE (some (true, k))]
        exact Nat.add_lt_add_left (hS k' hk') 2)
      iexact Hlev
    iexact Hat
  iintro ⟨HO, Hat, -, Hp⟩
  ihave Hp := (Entails.of_eq (rest_rcv m c k)) $$ Hp
  iapply Hk $$ [HO] Hat Hp
  iexists _; iexact HO

end Cert.Butterfly

end
-- ==== Proof.Butterfly.Scratch.lean ====
/- The scratch buffers as slots: a buffer held at any contents is its slots held at any contents, and back. -/
module

public import proofs.«01_k».proof.Proof.Butterfly.Slots

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Slices of one buffer -/

section Pieces

variable {sp : Space} {s : Shape} {e : EltTy} (M : Memref sig .tc sp s e) {T : Type} [Fintype T] [DecidableEq T] (c : Dev nD)

/-- Held at some contents. -/
def anyAt (M : Memref sig .tc sp s e) : sProp 𝕄 := iprop(∃ X, owns (c : Thread nD τ) M fullShare X)

instance any_nonempty (r : Rect s) : Nonempty (r.shape.Idx → Elt F e) := ⟨fun _ => Classical.arbitrary _⟩

omit [Fintype T] [DecidableEq T] in
theorem any_intro (X : s.Idx → Elt F e) : owns (c : Thread nD τ) M fullShare X ⊢ anyAt (F := F) c M := by
  unfold anyAt
  iintro H; iexists X; iexact H

/-- Contents given on each slice of a disjoint family are contents of the whole. -/
theorem glue (r : T → Rect s) (hd : ∀ t t', t ≠ t' → Disjoint (r t).set (r t').set) (Y : ∀ t, (r t).shape.Idx → Elt F e) :
    ∃ X : s.Idx → Elt F e, ∀ t, (fun j => X ((r t).emb j)) = Y t := by
  classical
  refine ⟨fun x => if h : ∃ p : (t : T) × (r t).shape.Idx, (r p.1).emb p.2 = x then Y h.choose.1 h.choose.2 else Classical.arbitrary _, fun t => funext fun j => ?_⟩
  have h : ∃ p : (t : T) × (r t).shape.Idx, (r p.1).emb p.2 = (r t).emb j := ⟨⟨t, j⟩, rfl⟩
  show (if h : ∃ p : (t : T) × (r t).shape.Idx, (r p.1).emb p.2 = (r t).emb j then Y h.choose.1 h.choose.2 else Classical.arbitrary _) = Y t j
  rw [dif_pos h]
  obtain ⟨p, hp⟩ : ∃ p, p = h.choose := ⟨_, rfl⟩
  have hs : (r p.1).emb p.2 = (r t).emb j := by rw [hp]; exact h.choose_spec
  rw [← hp]
  obtain ⟨t', j'⟩ := p
  have ht : t' = t := by
    by_contra hne
    have h1 : (r t).emb j ∈ (r t').set := by rw [← (r t').map_emb_univ, ← hs]; exact Finset.mem_map_of_mem _ (Finset.mem_univ _)
    have h2 : (r t).emb j ∈ (r t).set := by rw [← (r t).map_emb_univ]; exact Finset.mem_map_of_mem _ (Finset.mem_univ _)
    exact Finset.disjoint_left.mp (hd t' t hne) h1 h2
  subst ht
  rw [(r t').emb.injective hs]

variable (r : T → Rect s) (hr : ∀ t a, (r t).stride a = 1) (hd : ∀ t t', t ≠ t' → Disjoint (r t).set (r t').set)
  (hcov : (Finset.univ : Finset T).biUnion (fun t => (r t).set) = Finset.univ)

include hd hcov in
theorem any_split : anyAt (F := F) c M ⊢ bigSep Finset.univ fun t => anyAt (F := F) c (M.slice (r t) (hr t)) := by
  have hX (X : s.Idx → Elt F e) : owns (c : Thread nD τ) M fullShare X ⊢ bigSep Finset.univ fun t => anyAt (F := F) c (M.slice (r t) (hr t)) :=
    (owns_rects (c : Thread nD τ) M fullShare r hr hd hcov X).trans (bigSep_mono fun t _ => any_intro _ c _)
  show (iprop(∃ X, owns (c : Thread nD τ) M fullShare X) : sProp 𝕄) ⊢ _
  iintro ⟨%X, H⟩
  iapply (hX X); iexact H

include hd hcov in
theorem any_join : (bigSep Finset.univ fun t => anyAt (F := F) c (M.slice (r t) (hr t))) ⊢ anyAt (F := F) c M := by
  unfold anyAt
  iintro H
  ihave H := (BI.bigSep_exists_pi Finset.univ fun t (Y : (r t).shape.Idx → Elt F e) =>
    (owns (c : Thread nD τ) (M.slice (r t) (hr t)) fullShare Y : sProp 𝕄)) $$ H
  icases H with ⟨%Y, H⟩
  obtain ⟨X, hX⟩ := glue r hd Y
  iexists X
  iapply (owns_of_rects (c : Thread nD τ) M fullShare r hr hd hcov X)
  rw [bigSep_congr (s := Finset.univ) (Φ := fun t => owns (c : Thread nD τ) (M.slice (r t) (hr t)) fullShare (fun j => X ((r t).emb j)))
    (Ψ := fun t => owns (c : Thread nD τ) (M.slice (r t) (hr t)) fullShare (Y t)) fun t _ => by rw [hX t]]
  iexact H

/-- Squeezing a slice changes neither. -/
theorem any_squeeze (ρ : Rect s) (hρ : ∀ a, ρ.stride a = 1) {t : Shape} (h : ρ.shape.Squeezes t) :
    (anyAt (F := F) c ((M.slice ρ hρ).squeeze t h)) = anyAt (F := F) c (M.slice ρ hρ) := by
  have hs : ((M.slice ρ hρ).squeeze t h).view.set = (M.slice ρ hρ).view.set := View.set_reshape _ _
  have h1 : anyAt (F := F) c ((M.slice ρ hρ).squeeze t h) ⊢ anyAt (F := F) c (M.slice ρ hρ) := by
    unfold anyAt owns
    iintro ⟨%X, %f, %hf, H⟩
    iexists (M.slice ρ hρ).view.read (Elt F) f
    iexists f
    isplitr; · ipureintro; rfl
    rw [← hs]; iexact H
  have h2 : anyAt (F := F) c (M.slice ρ hρ) ⊢ anyAt (F := F) c ((M.slice ρ hρ).squeeze t h) := by
    unfold anyAt owns
    iintro ⟨%X, %f, %hf, H⟩
    iexists ((M.slice ρ hρ).squeeze t h).view.read (Elt F) f
    iexists f
    isplitr; · ipureintro; rfl
    rw [hs]; iexact H
  exact BI.equiv_iff.mp ⟨h1, h2⟩

end Pieces

/-! ## Slots of a flow's buffers -/

/-- The slots of a buffer of `n` slots do not meet, and are all of it. -/
theorem slots_apart (n w : ℕ) (h : ∀ k : Fin n, ∀ a, (![k.val, 0, 0] : Fin 3 → Nat) a + (SH 1 w).size a ≤ (SH n w).size a) (k k' : Fin n) (hk : k ≠ k') :
    Disjoint (Rect.unit (s := SH n w) ![k.val, 0, 0] (SH 1 w).size (h k)).set (Rect.unit (s := SH n w) ![k'.val, 0, 0] (SH 1 w).size (h k')).set := by
  refine Finset.disjoint_left.mpr fun x hx hx' => hk (Fin.ext ?_)
  have h1 : k.val ≤ (x 0).val ∧ (x 0).val < k.val + 1 := Rect.mem_set_unit.mp hx 0
  have h2 : k'.val ≤ (x 0).val ∧ (x 0).val < k'.val + 1 := Rect.mem_set_unit.mp hx' 0
  omega
theorem slots_cover (n w : ℕ) (h : ∀ k : Fin n, ∀ a, (![k.val, 0, 0] : Fin 3 → Nat) a + (SH 1 w).size a ≤ (SH n w).size a) :
    (Finset.univ : Finset (Fin n)).biUnion (fun k => (Rect.unit (s := SH n w) ![k.val, 0, 0] (SH 1 w).size (h k)).set) = Finset.univ := by
  refine Finset.eq_univ_of_forall fun x => Finset.mem_biUnion.mpr ⟨⟨(x 0).val, (x 0).isLt⟩, Finset.mem_univ _, Rect.mem_set_unit.mpr fun a => ?_⟩
  fin_cases a
  · exact ⟨le_rfl, Nat.lt_succ_self _⟩
  · exact ⟨Nat.zero_le _, by show (x 1).val < 0 + 256; rw [Nat.zero_add]; exact (x 1).isLt⟩
  · exact ⟨Nat.zero_le _, by show (x 2).val < 0 + w; rw [Nat.zero_add]; exact (x 2).isLt⟩

variable (c : Dev nD)

theorem acc_slots (f : Fin 4) : anyAt (F := F) c (accM f) = bigSep Finset.univ fun j : Fin 8 => (iprop(∃ X, accAt c f j X) : sProp 𝕄) := by
  have hq : (bigSep Finset.univ fun j : Fin 8 => (iprop(∃ X, accAt c f j X) : sProp 𝕄))
      = bigSep Finset.univ fun j : Fin 8 => anyAt (F := F) c ((accM f).slice (accR f j) (fun _ => rfl)) :=
    bigSep_congr fun j _ => any_squeeze (F := F) (accM f) c (accR f j) (fun _ => rfl) (squeezes f)
  rw [hq]
  exact BI.equiv_iff.mp ⟨any_split (accM f) c (accR f) (fun _ _ => rfl) (slots_apart 8 (wid f) (acc_inb f)) (slots_cover 8 (wid f) (acc_inb f)),
    any_join (accM f) c (accR f) (fun _ _ => rfl) (slots_apart 8 (wid f) (acc_inb f)) (slots_cover 8 (wid f) (acc_inb f))⟩
theorem land_slots (f : Fin 4) : anyAt (F := F) c (landM f) = bigSep Finset.univ fun k : Fin 7 => landAny (F := F) c (f, k) := by
  have hq : (bigSep Finset.univ fun k : Fin 7 => landAny (F := F) c (f, k))
      = bigSep Finset.univ fun k : Fin 7 => anyAt (F := F) c ((landM f).slice (landR f k) (fun _ => rfl)) :=
    bigSep_congr fun k _ => any_squeeze (F := F) (landM f) c (landR f k) (fun _ => rfl) (squeezes f)
  rw [hq]
  exact BI.equiv_iff.mp ⟨any_split (landM f) c (landR f) (fun _ _ => rfl) (slots_apart 7 (wid f) (land_inb f)) (slots_cover 7 (wid f) (land_inb f)),
    any_join (landM f) c (landR f) (fun _ _ => rfl) (slots_apart 7 (wid f) (land_inb f)) (slots_cover 7 (wid f) (land_inb f))⟩

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem eight (A B C D E : sProp 𝕄) : (iprop(A ∗ B ∗ C ∗ D ∗ E) : sProp 𝕄) = iprop((A ∗ B ∗ C ∗ D) ∗ E) := by
  have h1 : (iprop(A ∗ B ∗ C ∗ D ∗ E) : sProp 𝕄) ⊢ iprop((A ∗ B ∗ C ∗ D) ∗ E) := by
    iintro ⟨H0, H1, H2, H3, H⟩
    isplitl [H0 H1 H2 H3]
    · isplitl [H0]; · iexact H0
      isplitl [H1]; · iexact H1
      isplitl [H2]; · iexact H2
      iexact H3
    iexact H
  have h2 : (iprop((A ∗ B ∗ C ∗ D) ∗ E) : sProp 𝕄) ⊢ iprop(A ∗ B ∗ C ∗ D ∗ E) := by
    iintro ⟨⟨H0, H1, H2, H3⟩, H⟩
    isplitl [H0]; · iexact H0
    isplitl [H1]; · iexact H1
    isplitl [H2]; · iexact H2
    isplitl [H3]; · iexact H3
    iexact H
  exact BI.equiv_iff.mp ⟨h1, h2⟩

/-- All slots of a device at any contents. -/
def accAll : sProp 𝕄 := bigSep Finset.univ fun p : Fin 4 × Fin 8 => iprop(∃ X, accAt c p.1 p.2 X)
def landAll : sProp 𝕄 := bigSep Finset.univ fun k : Msg => landAny c k

theorem any_whole (b : Ref sig .tc) : anyAt (F := F) c (Memref.whole b) = iprop(∃ f : Buf (Elt F) ((c : Thread nD τ).loc b), ((c : Thread nD τ).loc b) ↦{fullShare} f) := by
  unfold anyAt; simp only [owns_whole]

/-- The scratch buffers are the slots. -/
theorem scratch_eq : (Pipeline.scopedRest spec0 c : sProp 𝕄) = iprop(accAll c ∗ landAll c) := by
  rw [scopedRest0_eq]
  unfold accAll landAll Msg
  rw [BI.bigSep_univ_prod, BI.bigSep_univ_prod,
    bigSep_congr (s := Finset.univ) (Ψ := fun f : Fin 4 => anyAt (F := F) c (accM f)) (fun f _ => (acc_slots c f).symm),
    bigSep_congr (s := Finset.univ) (Ψ := fun f : Fin 4 => anyAt (F := F) c (landM f)) (fun f _ => (land_slots c f).symm), bigSep_fin4, bigSep_fin4]
  simp only [← any_whole (F := F)]
  exact eight _ _ _ _ _

end Cert.Butterfly

end
-- ==== Proof.Butterfly.State.lean ====
/- The state of a device between two steps: where each slot, each message and each band of the result stands, and the
   resources the device holds then. One theorem for each kind of step takes the resources of one state to those of the next. -/
module

public import proofs.«01_k».proof.Proof.Butterfly.Slots

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## States -/

/-- A slot holds anything, or its contents after `r` rounds, or is in flight. -/
inductive ASt : Type
  | raw
  | at (r : ℕ)
  | away
  deriving DecidableEq

/-- A message is not sent, sent, or received and folded. -/
inductive MSt : Type
  | idle
  | sent
  | done
  deriving DecidableEq

structure Sta : Type where
  acc : Fin 4 × Fin 8 → ASt
  msg : Msg → MSt
  out : Fin 4 → Bool

/-- The messages not sent. -/
def Sta.idles (σ : Sta) : Finset Msg := Finset.univ.filter fun k => σ.msg k = .idle

/-- The state after a step, when the step may be taken. -/
def next : Step → Sta → Option Sta
  | .seed f j, σ => if σ.acc (f, j) = .raw then some { σ with acc := Function.update σ.acc (f, j) (.at 0) } else none
  | .send f k, σ =>
    if σ.acc (f, sj f k) = .at (rnd k) ∧ σ.msg (f, k) = .idle then
      some { σ with acc := Function.update σ.acc (f, sj f k) .away, msg := Function.update σ.msg (f, k) .sent }
    else none
  | .fold f k, σ =>
    if σ.msg (f, k) = .sent ∧ σ.acc (f, sj f k) = .away ∧ σ.acc (f, kj f k) = .at (rnd k) ∧ (∀ m, σ.msg m = .idle → rnd k < rnd m.2) then
      some
        { acc := Function.update (Function.update σ.acc (f, sj f k) .raw) (f, kj f k) (.at (if k = 6 then rnd k else rnd k + 1))
          msg := Function.update σ.msg (f, k) .done
          out := if k = 6 then Function.update σ.out f true else σ.out }
    else none

def runSta : List Step → Sta → Option Sta
  | [], σ => some σ
  | s :: ss, σ => (next s σ).bind (runSta ss)

def sta₀ : Sta := ⟨fun _ => .raw, fun _ => .idle, fun _ => false⟩

/-- Nothing is in flight: every message is folded, every band stored, no slot away. -/
def Sta.over (σ : Sta) : Prop := (∀ p, σ.acc p ≠ .away) ∧ (∀ k, σ.msg k = .done) ∧ (∀ f, σ.out f = true)
instance (σ : Sta) : Decidable σ.over := by unfold Sta.over; infer_instance

/-- The kernel's steps may be taken in its order, and end with nothing in flight. -/
theorem steps_over : ∃ σ, runSta steps sta₀ = some σ ∧ σ.over := by
  have h : ((runSta steps sta₀).elim false fun σ => decide σ.over) = true := by decide +kernel
  cases hr : runSta steps sta₀ with
  | none => rw [hr] at h; exact absurd h Bool.false_ne_true
  | some σ => rw [hr] at h; exact ⟨σ, rfl, of_decide_eq_true h⟩

/-! ## Resources -/

variable (m : (ℓ : Loc nD τ sig) → Buf (Elt F) ℓ) (K : Dev nD × Cell → ℕ) (c : Dev nD)

/-- Every cell's invariant, and that its round 0 is reached. -/
def records : sProp 𝕄 := bigSep Finset.univ fun ck : Dev nD × Cell => iprop(cellInv ER (Rd m) (K ck) (kcell ck) ∗ reached ER (kcell ck) 0)
instance records_persistent : BI.Persistent (records m K) := by unfold records; infer_instance

theorem record_at (ck : Dev nD × Cell) : records m K ⊢ iprop(cellInv ER (Rd m) (K ck) (kcell ck) ∗ reached ER (kcell ck) 0) := by
  unfold records; exact bigSep_elim (Finset.mem_univ ck)
theorem inv_at (ck : Dev nD × Cell) : records m K ⊢ cellInv ER (Rd m) (K ck) (kcell ck) := (record_at m K ck).trans sep_elim_left
theorem reached_at (ck : Dev nD × Cell) : records m K ⊢ reached ER (kcell ck) 0 := (record_at m K ck).trans sep_elim_right

def slotRes (p : Fin 4 × Fin 8) : ASt → sProp 𝕄
  | .raw => iprop(∃ X, accAt c p.1 p.2 X)
  | .at r => accAt c p.1 p.2 (V m p.1 r c p.2)
  | .away => iprop(emp)

def msgRes (k : Msg) : MSt → sProp 𝕄
  | .idle => iprop(dutyTok ER (sndCell c k) 0 0 ∗ dutyTok ER (rcvCell (prt (ax k.1 k.2) c) k) 0 0 ∗ landAny (prt (ax k.1 k.2) c) k
      ∗ atPos ER (sndCell c k) 0 ∅ 0 ∗ atPos ER (rcvCell c k) 0 ∅ 0 ∗ cred (tallyAt (rcvCell c k) () (N k)))
  | .sent => iprop(cred (tallyAt (sndCell c k) () (N k))
      ∗ atPos ER (sndCell c k) 0 ∅ 0 ∗ atPos ER (rcvCell c k) 0 ∅ 0 ∗ cred (tallyAt (rcvCell c k) () (N k)))
  | .done => iprop(atPos ER (sndCell c k) 1 ∅ 0 ∗ atPos ER (rcvCell c k) 1 ∅ 0 ∗ landAny c k)

abbrev at0 (b : Ref sig .tc) (X : b.ty.Contents (Elt F)) : sProp 𝕄 := ((c : Thread nD τ).loc b) ↦{fullShare} X

/-- The result's staging buffer, its stored bands at their sums. -/
def outRes (o : Fin 4 → Bool) : sProp 𝕄 :=
  iprop(∃ b : (cc0_stg2_0 : Ref sig .tc).ty.Contents (Elt F), ⌜∀ f, o f = true → ∀ x : (SM (wid f)).Idx, b ((bandR f).emb x) = V m f 3 c 0 x⌝ ∗ at0 c cc0_stg2_0 b)

def St (σ : Sta) : sProp 𝕄 :=
  iprop(records m K ∗ levAts L lv ∗ at0 c cc0_stg0_0 (xin m c) ∗ at0 c cc0_stg1_0 (win m c)
    ∗ bigSep Finset.univ (fun p => slotRes m c p (σ.acc p)) ∗ bigSep Finset.univ (fun k => msgRes c k (σ.msg k))
    ∗ outRes m c σ.out ∗ ∃ W, owes (c : Thread nD τ) (owe c σ.idles) W)

/-- One member of a family may be taken out and put back in another state. -/
theorem bigSep_take {I T : Type} [Fintype I] [DecidableEq I] (R : I → T → sProp 𝕄) (g : I → T) (i : I) (s t : T) (h : g i = s) :
    bigSep Finset.univ (fun j => R j (g j)) ⊢ iprop(R i s ∗ (R i t -∗ bigSep Finset.univ fun j => R j (Function.update g i t j))) := by
  subst h
  have hc : bigSep (Finset.univ.erase i) (fun j => R j (Function.update g i t j)) = bigSep (Finset.univ.erase i) fun j => R j (g j) :=
    bigSep_congr fun j hj => by rw [Function.update_of_ne (Finset.ne_of_mem_erase hj)]
  rw [bigSep_univ_at (fun j => R j (g j)) i, bigSep_univ_at (fun j => R j (Function.update g i t j)) i, Function.update_self, hc]
  iintro ⟨H, HR⟩
  isplitl [H]; · iexact H
  iintro H
  isplitl [H] <;> iassumption

theorem slot_raw (p : Fin 4 × Fin 8) : slotRes m c p .raw = iprop(∃ X, accAt c p.1 p.2 X) := rfl
theorem slot_at (p : Fin 4 × Fin 8) (r : ℕ) : slotRes m c p (.at r) = accAt c p.1 p.2 (V m p.1 r c p.2) := rfl
theorem slot_away (p : Fin 4 × Fin 8) : slotRes m c p .away = iprop(emp) := rfl
theorem msg_idle (k : Msg) : msgRes (F := F) c k .idle
    = iprop(dutyTok ER (sndCell c k) 0 0 ∗ dutyTok ER (rcvCell (prt (ax k.1 k.2) c) k) 0 0 ∗ landAny (prt (ax k.1 k.2) c) k
      ∗ atPos ER (sndCell c k) 0 ∅ 0 ∗ atPos ER (rcvCell c k) 0 ∅ 0 ∗ cred (tallyAt (rcvCell c k) () (N k))) := rfl
theorem msg_sent (k : Msg) : msgRes (F := F) c k .sent
    = iprop(cred (tallyAt (sndCell c k) () (N k)) ∗ atPos ER (sndCell c k) 0 ∅ 0 ∗ atPos ER (rcvCell c k) 0 ∅ 0 ∗ cred (tallyAt (rcvCell c k) () (N k))) := rfl
theorem msg_done (k : Msg) : msgRes (F := F) c k .done = iprop(atPos ER (sndCell c k) 1 ∅ 0 ∗ atPos ER (rcvCell c k) 1 ∅ 0 ∗ landAny c k) := rfl

theorem mem_idles {σ : Sta} {k : Msg} : k ∈ σ.idles ↔ σ.msg k = .idle := by
  unfold Sta.idles; rw [Finset.mem_filter]; exact and_iff_right (Finset.mem_univ _)

/-! ## Steps -/

/-- What a run ends in may be weakened with what is left beside it. -/
theorem wpc_wand {α : Type} {P : sProp 𝕄} {p : TProg (F := F) α} {Q Q' : α → sProp 𝕄} (h : P ⊢ wpc c p Q) :
    P ⊢ iprop((∀ a, Q a -∗ Q' a) -∗ wpc c p Q') := by
  iintro HP HQ
  iapply (wp_wand_r frame (wpE (defs₀ (F := F)) 𝒱₀ (c : Thread nD τ) none) Set.univ (Q := Q))
  isplitl [HP]; · iapply h; iexact HP
  iexact HQ

theorem wpc_ret (Q : PUnit → sProp 𝕄) : Q ⟨⟩ ⊢ wpc (F := F) c (.ret ⟨⟩) Q := by
  unfold wpc; rw [wp_ret]; iintro H; imodintro; iexact H

theorem st_seed (f : Fin 4) (j : Fin 8) (σ σ' : Sta) (h : next (.seed f j) σ = some σ') : St m K c σ ⊢ wpc c (seedP c f j) fun _ => St m K c σ' := by
  simp only [next] at h
  split_ifs at h with h0
  obtain rfl := Option.some.inj h
  unfold St seedP
  simp only [Prog.lift, Prog.bind_op, Prog.bind_ret]
  iintro ⟨#Hrec, #Hlev, Hx, Hw, Hacc, Hmsg, Hout, HO⟩
  ihave ⟨Hs, Hback⟩ := (bigSep_take (slotRes m c) σ.acc (f, j) .raw (.at 0) h0) $$ Hacc
  ihave Hs := (Entails.of_eq (slot_raw m c (f, j))) $$ Hs
  icases Hs with ⟨%X, Hs⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_acc c f j X) $$ Hs; iintro Hs
  iapply (wp_store_acc c f j X) $$ Hs; iintro Hs
  iapply (wpc_ret c)
  isplitr; · iexact Hrec
  isplitr; · iexact Hlev
  isplitl [Hx]; · iexact Hx
  isplitl [Hw]; · iexact Hw
  isplitl [Hs Hback]; · iapply Hback; rw [slot_at]; iexact Hs
  isplitl [Hmsg]; · iexact Hmsg
  isplitl [Hout]; · iexact Hout
  iexact HO

theorem idles_sent (σ : Sta) (k : Msg) (a : Fin 4 × Fin 8 → ASt) (o : Fin 4 → Bool) :
    (⟨a, Function.update σ.msg k .sent, o⟩ : Sta).idles = σ.idles.erase k := by
  ext k'
  rw [Finset.mem_erase, mem_idles, mem_idles]
  by_cases hk : k' = k
  · subst hk; simp
  · simp [hk]

theorem st_send (f : Fin 4) (k : Fin 7) (σ σ' : Sta) (h : next (.send f k) σ = some σ') : St m K c σ ⊢ wpc c (sendP c f k) fun _ => St m K c σ' := by
  simp only [next] at h
  split_ifs at h with h0
  obtain rfl := Option.some.inj h
  obtain ⟨h0, h1⟩ := h0
  unfold St
  rw [idles_sent]
  iintro ⟨#Hrec, #Hlev, Hx, Hw, Hacc, Hmsg, Hout, ⟨%W, HO⟩⟩
  ihave ⟨Hs, Hback⟩ := (bigSep_take (slotRes m c) σ.acc (f, sj f k) (.at (rnd k)) .away h0) $$ Hacc
  ihave ⟨Hm, Hmback⟩ := (bigSep_take (msgRes c) σ.msg (f, k) .idle .sent h1) $$ Hmsg
  ihave Hs := (Entails.of_eq (slot_at m c (f, sj f k) (rnd k))) $$ Hs
  ihave Hm := (Entails.of_eq (msg_idle c (f, k))) $$ Hm
  unfold landAny
  icases Hm with ⟨Ht, Ht', ⟨%X, Hland⟩, Hat, Hat', Hc⟩
  ihave #HI := (inv_at m K (c, some (false, (f, k)))) $$ Hrec
  ihave #HJ := (inv_at m K (prt (ax f k) c, some (true, (f, k)))) $$ Hrec
  ihave #Hr := (reached_at m K (c, some (false, (f, k)))) $$ Hrec
  ihave #Hr' := (reached_at m K (prt (ax f k) c, some (true, (f, k)))) $$ Hrec
  iapply (wpc_wand c (wp_sendP c m K (f, k) X (mem_idles.mpr h1) W)) $$ [Hs Hland HO Ht Ht']
  · isplitr; · iexact HI
    isplitr; · iexact HJ
    isplitl [Hs]; · iexact Hs
    isplitl [Hland]; · iexact Hland
    isplitl [HO]; · iexact HO
    isplitl [Ht]; · iexact Ht
    isplitr; · iexact Hr
    isplitl [Ht']; · iexact Ht'
    iexact Hr'
  iintro %u ⟨Hc', HO⟩
  isplitr; · iexact Hrec
  isplitr; · iexact Hlev
  isplitl [Hx]; · iexact Hx
  isplitl [Hw]; · iexact Hw
  isplitl [Hback]; · iapply Hback; rw [slot_away]; iempintro
  isplitl [Hmback Hc' Hat Hat' Hc]
  · iapply Hmback; rw [msg_sent]
    isplitl [Hc']; · iexact Hc'
    isplitl [Hat]; · iexact Hat
    isplitl [Hat'] <;> iassumption
  isplitl [Hout]; · iexact Hout
  iexists W; iexact HO

theorem idles_done (σ : Sta) (k : Msg) (a : Fin 4 × Fin 8 → ASt) (o : Fin 4 → Bool) (h : σ.msg k ≠ .idle) :
    (⟨a, Function.update σ.msg k .done, o⟩ : Sta).idles = σ.idles := by
  ext k'
  rw [mem_idles, mem_idles]
  by_cases hk : k' = k
  · subst hk; simp [h]
  · simp [hk]

/-- Two bands of the result's columns have no element in common. -/
theorem band_apart : ∀ f g : Fin 4, f ≠ g → lo f + wid f ≤ lo g ∨ lo g + wid g ≤ lo f := by decide
theorem band_not_mem (f g : Fin 4) (h : g ≠ f) (x : (SM (wid g)).Idx) : (bandR g).emb x ∉ Finset.univ.map (bandR f).emb := by
  intro hm
  obtain ⟨y, -, hy⟩ := Finset.mem_map.mp hm
  have h1 : lo f + 1 * (y 1).val = lo g + 1 * (x 1).val := congrArg (fun i : S256x2048.Idx => (i 1).val) hy
  have hx : (x 1).val < wid g := (x 1).isLt
  have hy : (y 1).val < wid f := (y 1).isLt
  rcases band_apart f g h.symm with h | h <;> omega

/-- Storing a band's sum into the result's staging buffer. -/
theorem out_store (f : Fin 4) (o : Fin 4 → Bool) (b : (cc0_stg2_0 : Ref sig .tc).ty.Contents (Elt F))
    (hb : ∀ g, o g = true → ∀ x : (SM (wid g)).Idx, b ((bandR g).emb x) = V m g 3 c 0 x) :
    ∀ g, Function.update o f true g = true → ∀ x : (SM (wid g)).Idx,
      ((oM : Memref sig .tc .vmem S256x2048 .f32).access (bandR f)).write (Elt F) b (V m f 3 c 0) Finset.univ ((bandR g).emb x) = V m g 3 c 0 x := by
  intro g hg x
  by_cases h : g = f
  · subst h
    exact View.read_slice_write_emb (v := (oM : Memref sig .tc .vmem S256x2048 .f32).view) (bandR g) b (V m g 3 c 0) (Finset.mem_univ x)
  · rw [Function.update_of_ne h] at hg
    exact (View.read_slice_write_of_not_mem (v := (oM : Memref sig .tc .vmem S256x2048 .f32).view) (bandR f) b (V m f 3 c 0) Finset.univ
      (band_not_mem f g h x)).trans (hb g hg x)

/-- The sum a fold stores. -/
theorem fold_sum (f : Fin 4) (k : Fin 7) :
    foldV f (up f (V m f (rnd k) c (kj f k))) (up f (V m f (rnd k) (prt (ax f k) c) (sj f k))) = V m f (rnd k + 1) c (kj f k) := by
  rw [foldV_up, V_fold]

theorem st_fold (f : Fin 4) (k : Fin 7) (σ σ' : Sta) (h : next (.fold f k) σ = some σ') : St m K c σ ⊢ wpc c (foldP f k) fun _ => St m K c σ' := by
  simp only [next] at h
  rw [Option.ite_none_right_eq_some] at h
  obtain ⟨⟨h1, h2, h3, h4⟩, h⟩ := h
  obtain rfl := Option.some.inj h
  have hmsg : σ.msg (f, k) ≠ .idle := by rw [h1]; exact fun h => MSt.noConfusion h
  have h5 : ∀ t, Function.update σ.acc (f, sj f k) t (f, kj f k) = .at (rnd k) := fun t => by
    rw [Function.update_of_ne (fun h => sj_ne_kj f k (congrArg Prod.snd h).symm)]; exact h3
  unfold St
  rw [idles_done _ _ _ _ hmsg]
  unfold foldP
  simp only [Prog.lift, Prog.bind_op, Prog.bind_ret]
  iintro ⟨#Hrec, #Hlev, Hx, Hw, Hacc, Hmsg, Hout, ⟨%W, HO⟩⟩
  ihave ⟨-, Hback⟩ := (bigSep_take (slotRes m c) σ.acc (f, sj f k) .away .raw h2) $$ Hacc
  ihave ⟨Hm, Hmback⟩ := (bigSep_take (msgRes c) σ.msg (f, k) .sent .done h1) $$ Hmsg
  ihave Hm := (Entails.of_eq (msg_sent c (f, k))) $$ Hm
  icases Hm with ⟨Hc, Hat, Hat', Hc'⟩
  ihave #HI := (inv_at m K (c, some (false, (f, k)))) $$ Hrec
  ihave #HJ := (inv_at m K (c, some (true, (f, k)))) $$ Hrec
  -- the slot sent comes back
  iapply (wp_wait_snd c m K (f, k) W) $$ [Hc HO Hat]
  · isplitr; · iexact HI
    isplitr; · iexact Hlev
    isplitl [Hc]; · iexact Hc
    isplitl [HO] <;> iassumption
  iintro ⟨%W, HO⟩ Hat Hs
  -- and the partner's message
  iapply (wp_wait_rcv c m K (f, k) (fun k' hk' => h4 k' (mem_idles.mp hk')) W) $$ [Hc' HO Hat']
  · isplitr; · iexact HJ
    isplitr; · iexact Hlev
    isplitl [Hc']; · iexact Hc'
    isplitl [HO] <;> iassumption
  iintro HO Hat' Hl
  unfold sndPay rcvPay
  ihave Hacc := Hback $$ [Hs]
  · rw [slot_raw]; iexists _; iexact Hs
  ihave ⟨Hs, Hback⟩ := (bigSep_take (slotRes m c) _ (f, kj f k) (.at (rnd k)) (.at (if k = 6 then rnd k else rnd k + 1)) (h5 _)) $$ Hacc
  ihave Hs := (Entails.of_eq (slot_at m c (f, kj f k) (rnd k))) $$ Hs
  iapply (wp_load_acc c f (kj f k) (V m f (rnd k) c (kj f k))) $$ Hs; iintro Hs
  iapply (wp_load_land c (f, k) (V m f (rnd k) (prt (ax f k) c) (sj f k))) $$ Hl; iintro Hl
  rw [fold_sum]
  ihave Hmsg := Hmback $$ [Hat Hat' Hl]
  · rw [msg_done]
    isplitl [Hat]; · iexact Hat
    isplitl [Hat']; · iexact Hat'
    unfold landAny; iexists _; iexact Hl
  by_cases hk : k = 6
  · subst hk
    have hV : V m f (rnd 6 + 1) c (kj f 6) = V m f 3 c 0 := by rw [kj_last]; rfl
    rw [if_pos rfl, if_pos rfl, if_pos rfl, hV]
    unfold outRes
    icases Hout with ⟨%b, %hb, Hout⟩
    iapply (wp_load 𝒱₀ (c : Thread nD τ) none Set.univ (m := oM) (Finset.subset_univ _)) $$ Hout; iintro Hout
    iapply (wp_store 𝒱₀ (c : Thread nD τ) none Set.univ (m := oM) (r := bandR f) (Mk := Finset.univ) (Finset.subset_univ _)) $$ Hout; iintro Hout
    iapply (wpc_ret c)
    isplitr; · iexact Hrec
    isplitr; · iexact Hlev
    isplitl [Hx]; · iexact Hx
    isplitl [Hw]; · iexact Hw
    isplitl [Hs Hback]; · iapply Hback; rw [slot_at]; iexact Hs
    isplitl [Hmsg]; · iexact Hmsg
    isplitl [Hout]
    · iexists _
      isplitr; · ipureintro; exact out_store m c f σ.out b hb
      iexact Hout
    iexact HO
  · rw [if_neg hk, if_neg hk, if_neg hk]
    iapply (wp_load_acc c f (kj f k) (V m f (rnd k) c (kj f k))) $$ Hs; iintro Hs
    iapply (wp_store_acc c f (kj f k) (V m f (rnd k) c (kj f k)) (V m f (rnd k + 1) c (kj f k))) $$ Hs; iintro Hs
    iapply (wpc_ret c)
    isplitr; · iexact Hrec
    isplitr; · iexact Hlev
    isplitl [Hx]; · iexact Hx
    isplitl [Hw]; · iexact Hw
    isplitl [Hs Hback]; · iapply Hback; rw [slot_at]; iexact Hs
    isplitl [Hmsg]; · iexact Hmsg
    isplitl [Hout]; · iexact Hout
    iexact HO

/-- A step that may be taken takes one state's resources to the next's, -/
theorem st_step (s : Step) (σ σ' : Sta) (h : next s σ = some σ') : St m K c σ ⊢ wpc c (stepP c s) fun _ => St m K c σ' := by
  cases s with
  | seed f j => exact st_seed m K c f j σ σ' h
  | send f k => exact st_send m K c f k σ σ' h
  | fold f k => exact st_fold m K c f k σ σ' h

/-- and so does a run of them. -/
theorem st_run (ss : List Step) (σ σ' : Sta) (h : runSta ss σ = some σ') : St m K c σ ⊢ wpc c (runP c ss) fun _ => St m K c σ' := by
  induction ss generalizing σ with
  | nil =>
    obtain rfl := Option.some.inj h
    exact wpc_ret c (fun _ => St m K c σ)
  | cons s ss ih =>
    obtain ⟨σ₁, h1, h2⟩ := Option.bind_eq_some_iff.mp h
    show _ ⊢ wpc c (stepP c s >>= fun _ => runP c ss) _
    unfold wpc
    rw [wp_bind]
    exact (st_step m K c s σ σ₁ h1).trans (wp_mono _ _ _ fun _ => ih σ₁ h2)

end Cert.Butterfly

end
-- ==== Proof.Butterfly.Body.lean ====
/- The body on one device: the barrier lends each device its partners' landing slots, the steps run, the cells close. -/
module

public import proofs.«01_k».proof.Proof.Butterfly.Scratch
public import proofs.«01_k».proof.Proof.Butterfly.State

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Families over cells and axes -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A family over a device's cells: the barrier's member and the messages'. -/
theorem bigSep_opt (Φ : Cell → sProp 𝕄) : bigSep Finset.univ Φ = iprop(Φ none ∗ bigSep Finset.univ fun k : Bool × Msg => Φ (some k)) := by
  rw [bigSep_univ_at Φ none]
  have h : (Finset.univ : Finset Cell).erase none = (Finset.univ : Finset (Bool × Msg)).map Function.Embedding.some := by
    ext x; cases x <;> simp
  rw [h, bigSep_map]
  rfl

/-- The messages' are the send cells' and the receive cells'. -/
theorem bigSep_cells (Φ : Cell → sProp 𝕄) :
    bigSep Finset.univ Φ = iprop(Φ none ∗ (bigSep Finset.univ fun k : Msg => Φ (some (false, k))) ∗ bigSep Finset.univ fun k : Msg => Φ (some (true, k))) := by
  rw [bigSep_opt, bigSep_univ_prod, bigSep_univ_eq_bigSepL [false, true] (by decide) (by decide)]
  rfl

/-- A family over messages, sorted by the axis each crosses. -/
theorem bigSep_axes (Φ : Fin 3 → Msg → sProp 𝕄) :
    (bigSep Finset.univ fun a => bigSep Finset.univ fun k : Msg => if ax k.1 k.2 = a then Φ a k else iprop(emp))
      = bigSep Finset.univ fun k : Msg => Φ (ax k.1 k.2) k := by
  rw [bigSep_univ_comm]
  refine bigSep_congr fun k _ => ?_
  rw [bigSep_univ_at _ (ax k.1 k.2), if_pos rfl, bigSep_congr (Ψ := fun _ => iprop(emp)) fun a ha => if_neg (Finset.ne_of_mem_erase ha).symm]
  exact (congrArg (fun P : sProp 𝕄 => iprop(Φ (ax k.1 k.2) k ∗ P)) (bigSep_emp_const _)).trans (sep_emp_eq _)

/-- A device's own landing slots are what it hands to the devices across the three axes, -/
theorem land_out : (landAll c : sProp 𝕄) = bigSep Finset.univ fun a => barPay (F := F) (prt a c) a := by
  unfold landAll barPay
  simp only [prt_prt]
  exact (bigSep_axes fun _ k => landAny c k).symm
/-- and what those hand it are its partners' landing slots, message by message. -/
theorem land_in : (bigSep Finset.univ (barPay (F := F) c)) = bigSep Finset.univ fun k : Msg => landAny (prt (ax k.1 k.2) c) k :=
  bigSep_axes fun a k => landAny (prt a c) k

/-! ## The barrier -/

theorem wp_signal_bar (a : Fin 3) {A : Finset (Fin 3)} (ha : a ∈ A) (W : Waits sig Unit) {α : Type} {Q : α → sProp 𝕄} (p : PUnit → TProg (F := F) α) :
    iprop(records m K ∗ owes (c : Thread nD τ) (owe c Finset.univ + oweBar c A) W ∗ dutyTok ER (barCell (prt a c)) 0 a ∗ barPay (prt a c) a)
      ⊢ iprop((owes (c : Thread nD τ) (owe c Finset.univ + oweBar c (A.erase a)) W -∗ wpc c (p ⟨⟩) Q)
          -∗ wpc c (.op (.semSignal (prt a c, .tc) bar (1#32 : BitVec 32).toInt) p) Q) := by
  have hpay : barPay (prt a c) a ⊢ (Rd m).payload ((prt a c : Thread nD τ), SemLoc.reg bar) 0 a := Entails.of_eq (payload_bar m (prt a c) a).symm
  iintro ⟨#Hrec, HO, Ht, Hp⟩
  iapply (Rounds.wp_signal 𝒱₀ ER (Rd m) (c : Thread nD τ) none (dst := (prt a c : Thread nD τ)) (κ := K (prt a c, none))
      (d := a) (show a ∈ (Rd (F := F) m).duties (barCell (prt a c)) 0 by rw [duties_bar]; exact Finset.mem_univ _)
      ((amount_bar m (prt a c) a).trans (by decide)) () (O₀ := owe c Finset.univ + oweBar c A) (owe c Finset.univ + oweBar c (A.erase a))
      (show _ = owe c Finset.univ + oweBar c (A.erase a) + tallyAt (barCell (prt a c)) () 1 by rw [oweBar_erase c ha, add_assoc]))
  isplitr; · iapply (inv_at m K (prt a c, none)); iexact Hrec
  isplitl [HO]; · iexact HO
  isplitl [Ht]; · iexact Ht
  isplitl [Hp]; · iapply hpay; iexact Hp
  iapply (reached_at m K (prt a c, none)); iexact Hrec

theorem wp_wait_bar (W : Waits sig Unit) {α : Type} {Q : α → sProp 𝕄} (p : PUnit → TProg (F := F) α) :
    iprop(records m K ∗ levAts L lv ∗ cred (tallyAt (barCell c) () 3) ∗ owes (c : Thread nD τ) (owe c Finset.univ) W ∗ atPos ER (barCell c) 0 ∅ 0)
      ⊢ iprop(((∃ W, owes (c : Thread nD τ) (owe c Finset.univ) W) -∗ atPos ER (barCell c) 1 ∅ 0
            -∗ (bigSep Finset.univ fun k : Msg => landAny (prt (ax k.1 k.2) c) k) -∗ wpc c (p ⟨⟩) Q)
          -∗ wpc c (.op (.semWait bar (3#32 : BitVec 32).toInt) p) Q) := by
  iintro ⟨#Hrec, Hlev, Hc, HO, Hat⟩ Hk
  iapply (Rounds.wp_wait_rest_token 𝒱₀ ER (Rd m) (c : Thread nD τ) none (κ := K (c, none)) (sm := csem none)
      (wpE_semWait_eq 𝒱₀ (c : Thread nD τ) none Set.univ) (Set.mem_univ _) () (O := owe c Finset.univ) (W := W) (R := 0) (m := 0) (T := ∅)
      (by rw [expect_bar]; decide)) $$ [Hlev Hc HO Hat]
  · isplitr; · iapply (inv_at m K (c, none)); iexact Hrec
    isplitl [Hc]; · iexact Hc
    isplitl [HO]; · iexact HO
    isplitl [Hlev]
    · iapply (mayWait_owe c (csem none) Finset.univ fun k' _ => by
        rw [show preimage? csemE (csem none) = some none from preimage?_emb csemE none]
        show 1 < 2 + rnd k'.2
        omega)
      iexact Hlev
    iexact Hat
  iintro ⟨HO, Hat, -, Hp⟩
  ihave Hp := (Entails.of_eq ((rest_bar m c).trans (land_in c))) $$ Hp
  iapply Hk $$ [HO] Hat Hp
  iexists _; iexact HO

theorem oweBar_none (A : Finset (Fin 3)) (h : A = ∅) : oweBar c A = 0 := by subst h; rfl

/-! ## Before and after -/

/-- What a device pays and waits with: its cells' positions, the tokens of the duties it pays. -/
def linear : sProp 𝕄 :=
  iprop(bigSep Finset.univ (fun k : Cell => atPos ER (kcell (c, k)) 0 ∅ 0)
    ∗ bigSep Finset.univ (fun a : Fin 3 => dutyTok ER (barCell (prt a c)) 0 a)
    ∗ bigSep Finset.univ (fun k : Msg => dutyTok ER (sndCell c k) 0 0)
    ∗ bigSep Finset.univ (fun k : Msg => dutyTok ER (rcvCell (prt (ax k.1 k.2) c) k) 0 0))

def creds : sProp 𝕄 :=
  iprop(cred (tallyAt (barCell c) () 3) ∗ bigSep Finset.univ fun k : Msg => cred (tallyAt (rcvCell c k) () (N k)))

/-- What a device owes at launch: every message and every barrier signal. -/
def O₀ : CellTallies nD τ sig Unit := owe c Finset.univ + oweBar c Finset.univ

def before : sProp 𝕄 :=
  iprop(records m K ∗ linear c ∗ creds c ∗ levAts L lv ∗ accAll c ∗ landAll c ∗ at0 c cc0_stg0_0 (xin m c) ∗ at0 c cc0_stg1_0 (win m c)
    ∗ (∃ b, at0 c cc0_stg2_0 b) ∗ ∃ W, owes (c : Thread nD τ) (O₀ c) W)

/-- The bands make up the result's staging buffer. -/
theorem band_cover (x : S256x2048.Idx) : ∃ f, ∃ y : (SM (wid f)).Idx, (bandR f).emb y = x := by
  have h : ∃ f, lo f ≤ (x 1).val ∧ (x 1).val < lo f + wid f := by
    have h1 : (x 1).val < 2048 := (x 1).isLt
    by_cases h2 : (x 1).val < 640
    · exact ⟨0, Nat.zero_le _, by show _ < 0 + 640; omega⟩
    by_cases h3 : (x 1).val < 1280
    · exact ⟨1, by show 640 ≤ _; omega, by show _ < 640 + 640; omega⟩
    by_cases h4 : (x 1).val < 1920
    · exact ⟨2, by show 1280 ≤ _; omega, by show _ < 1280 + 640; omega⟩
    · exact ⟨3, by show 1920 ≤ _; omega, by show _ < 1920 + 128; omega⟩
  obtain ⟨f, h1, h2⟩ := h
  refine ⟨f, Fin.cons (x 0) (Fin.cons ⟨(x 1).val - lo f, by show _ < wid f; omega⟩ finZeroElim), funext fun a => ?_⟩
  fin_cases a
  · exact Fin.ext (by show 0 + 1 * (x 0).val = (x 0).val; omega)
  · exact Fin.ext (by show lo f + 1 * ((x 1).val - lo f) = (x 1).val; omega)

theorem bands_apart (f g : Fin 4) (h : f ≠ g) : Disjoint (bandR f).set (bandR g).set := by
  rw [← (bandR f).map_emb_univ]
  refine Finset.disjoint_left.mpr fun x hx hx' => ?_
  rw [← (bandR g).map_emb_univ] at hx'
  obtain ⟨y, -, rfl⟩ := Finset.mem_map.mp hx
  exact band_not_mem g f h y hx'

/-- What the result's staging buffer ends at: in each band, slot 0 of the flow after three rounds. -/
def outAt : (cc0_stg2_0 : Ref sig .tc).ty.Contents (Elt F) := (glue (F := F) (e := .f32) bandR bands_apart fun f => V m f 3 c 0).choose
theorem outAt_band (f : Fin 4) (x : (SM (wid f)).Idx) : outAt m c ((bandR f).emb x) = V m f 3 c 0 x :=
  congrFun ((glue (F := F) (e := .f32) bandR bands_apart fun f => V m f 3 c 0).choose_spec f) x
theorem outAt_of (b : (cc0_stg2_0 : Ref sig .tc).ty.Contents (Elt F)) (h : ∀ f, ∀ x : (SM (wid f)).Idx, b ((bandR f).emb x) = V m f 3 c 0 x) : b = outAt m c := by
  funext x
  obtain ⟨f, y, rfl⟩ := band_cover x
  rw [h, outAt_band]

def after : sProp 𝕄 :=
  iprop(bigSep Finset.univ (fun k : Cell => semVal (kcell (c, k)) 0) ∗ accAll c ∗ landAll c ∗ at0 c cc0_stg0_0 (xin m c) ∗ at0 c cc0_stg1_0 (win m c)
    ∗ at0 c cc0_stg2_0 (outAt m c) ∗ ∃ W, owes (c : Thread nD τ) 0 W)

/-- After the barrier, the steps' first state. -/
theorem st_start :
    iprop(records m K ∗ levAts L lv ∗ at0 c cc0_stg0_0 (xin m c) ∗ at0 c cc0_stg1_0 (win m c) ∗ accAll c
      ∗ ((bigSep Finset.univ fun k : Msg => dutyTok ER (sndCell c k) 0 0) ∗ (bigSep Finset.univ fun k : Msg => dutyTok ER (rcvCell (prt (ax k.1 k.2) c) k) 0 0)
        ∗ (bigSep Finset.univ fun k : Msg => landAny (prt (ax k.1 k.2) c) k)
        ∗ (bigSep Finset.univ fun k : Msg => atPos ER (sndCell c k) 0 ∅ 0) ∗ (bigSep Finset.univ fun k : Msg => atPos ER (rcvCell c k) 0 ∅ 0)
        ∗ bigSep Finset.univ fun k : Msg => cred (tallyAt (rcvCell c k) () (N k)))
      ∗ (∃ b, at0 c cc0_stg2_0 b) ∗ ∃ W, owes (c : Thread nD τ) (owe c Finset.univ) W)
      ⊢ St m K c sta₀ := by
  unfold St
  rw [show sta₀.idles = Finset.univ from Finset.filter_true_of_mem fun _ _ => rfl]
  rw [show (bigSep Finset.univ fun k => msgRes (F := F) c k (sta₀.msg k)) = _ from bigSep_congr fun k _ => msg_idle c k]
  simp only [bigSep_sep']
  iintro ⟨Hrec, Hlev, Hx, Hw, Hacc, Hmsg, ⟨%b, Hb⟩, HO⟩
  isplitl [Hrec]; · iexact Hrec
  isplitl [Hlev]; · iexact Hlev
  isplitl [Hx]; · iexact Hx
  isplitl [Hw]; · iexact Hw
  isplitl [Hacc]; · unfold accAll; iexact Hacc
  isplitl [Hmsg]; · iexact Hmsg
  isplitl [Hb]
  · unfold outRes; iexists b
    isplitr; · ipureintro; exact fun f h => absurd h Bool.false_ne_true
    iexact Hb
  iexact HO

theorem slot_any (p : Fin 4 × Fin 8) (s : ASt) (h : s ≠ .away) : slotRes m c p s ⊢ iprop(∃ X, accAt c p.1 p.2 X) := by
  cases s with
  | raw => rw [slot_raw]
  | «at» r => rw [slot_at]; iintro H; iexists _; iexact H
  | away => exact absurd rfl h

/-- A persistent fact may be used for every member of a family. -/
theorem bigSep_use {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  have h' : iprop(bigSep S (fun _ => R) ∗ bigSep S Φ) ⊢ bigSep S Ψ := by rw [← bigSep_sep']; exact bigSep_mono fun i _ => h i
  exact (sep_mono_left (BI.bigSep_of_persistent S R)).trans h'

/-- A device's cells, each at its last position, close: their counters at zero are its own again. -/
theorem close_cells : iprop(records m K ∗ bigSep Finset.univ fun k : Cell => atPos ER (kcell (c, k)) 1 ∅ 0)
    ⊢ |={Set.univ}=> bigSep Finset.univ fun k : Cell => (semVal (kcell (c, k)) 0 : sProp 𝕄) := by
  have h (k : Cell) : iprop(records m K ∗ atPos ER (kcell (c, k)) 1 ∅ 0) ⊢ |={Set.univ}=> (semVal (kcell (c, k)) 0 : sProp 𝕄) :=
    (sep_mono_left (inv_at m K (c, k))).trans
      (Rounds.cell_close ER (Rd m) (Set.mem_univ (K (c, k))) (fun h => h) (R := 1) (duties_later m (kcell (c, k))))
  exact (bigSep_use h).trans (bigSep_fupd _ _)

/-- The steps' last state gives the end. -/
theorem st_end (σ : Sta) (h : σ.over) : iprop(St m K c σ ∗ atPos ER (barCell c) 1 ∅ 0) ⊢ |={Set.univ}=> after m c := by
  obtain ⟨h1, h2, h3⟩ := h
  unfold St
  have hi : σ.idles = ∅ := Finset.filter_false_of_mem fun k _ => by rw [h2]; exact fun h => MSt.noConfusion h
  have hs : (bigSep Finset.univ fun p : Fin 4 × Fin 8 => slotRes m c p (σ.acc p)) ⊢ accAll c := bigSep_mono fun p _ => slot_any m c p _ (h1 p)
  have hm : (bigSep Finset.univ fun k : Msg => msgRes (F := F) c k (σ.msg k))
      = iprop((bigSep Finset.univ fun k : Msg => atPos ER (sndCell c k) 1 ∅ 0) ∗ (bigSep Finset.univ fun k : Msg => atPos ER (rcvCell c k) 1 ∅ 0) ∗ landAll c) := by
    refine (bigSep_congr fun k _ => (congrArg (msgRes c k) (h2 k)).trans (msg_done c k)).trans ?_
    rw [bigSep_sep', bigSep_sep']; rfl
  rw [hi, hm]
  iintro ⟨⟨#Hrec, -, Hx, Hw, Hacc, ⟨Hs, Hr, Hl⟩, Hout, HO⟩, Hb⟩
  imod (close_cells m K c) $$ [Hs Hr Hb] with Hz
  · isplitr; · iexact Hrec
    rw [bigSep_cells]
    isplitl [Hb]; · iexact Hb
    isplitl [Hs] <;> iassumption
  imodintro
  unfold after outRes
  isplitl [Hz]; · iexact Hz
  isplitl [Hacc]; · iapply hs; iexact Hacc
  isplitl [Hl]; · iexact Hl
  isplitl [Hx]; · iexact Hx
  isplitl [Hw]; · iexact Hw
  isplitl [Hout]
  · icases Hout with ⟨%b, %hb, Hout⟩
    rw [← outAt_of m c b fun f x => hb f (h3 f) x]; iexact Hout
  iexact HO

/-- The body takes a device from `before` to `after`. -/
theorem wp_body : before m K c ⊢ wpc c (bodyP (F := F)) fun _ => after m c := by
  unfold before linear creds O₀ bodyP barrierP
  rw [bigSep_cells, land_out, bigSep_fin3, bigSep_fin3]
  simp only [semSignalWord, semWaitWord, Prog.lift, Prog.bind_op, Prog.bind_ret, Prog.pure_eq_ret, wp_deviceId]
  iintro ⟨#Hrec, ⟨⟨HaB, HaS, HaV⟩, ⟨Ht0, Ht1, Ht2⟩, HtS, HtV⟩, ⟨HcB, HcV⟩, #Hlev, Hacc, ⟨Hp0, Hp1, Hp2⟩, Hx, Hw, Hout, ⟨%W, HO⟩⟩
  iapply (wp_signal_bar m K c 0 (Finset.mem_univ _) W) $$ [HO Ht0 Hp0]
  · isplitr; · iexact Hrec
    isplitl [HO]; · iexact HO
    isplitl [Ht0] <;> iassumption
  iintro HO
  iapply (wp_signal_bar m K c 1 (A := Finset.univ.erase 0) (by decide) W) $$ [HO Ht1 Hp1]
  · isplitr; · iexact Hrec
    isplitl [HO]; · iexact HO
    isplitl [Ht1] <;> iassumption
  iintro HO
  iapply (wp_signal_bar m K c 2 (A := (Finset.univ.erase 0).erase 1) (by decide) W) $$ [HO Ht2 Hp2]
  · isplitr; · iexact Hrec
    isplitl [HO]; · iexact HO
    isplitl [Ht2] <;> iassumption
  rw [oweBar_none c _ (by decide), add_zero]
  iintro HO
  iapply (wp_wait_bar m K c W) $$ [HcB HO HaB]
  · isplitr; · iexact Hrec
    isplitr; · iexact Hlev
    isplitl [HcB]; · iexact HcB
    isplitl [HO] <;> iassumption
  iintro HO HaB Hland
  ihave Hst := (st_start m K c) $$ [Hx Hw Hacc HtS HtV Hland HaS HaV HcV Hout HO]
  · isplitr; · iexact Hrec
    isplitr; · iexact Hlev
    isplitl [Hx]; · iexact Hx
    isplitl [Hw]; · iexact Hw
    isplitl [Hacc]; · iexact Hacc
    isplitl [HtS HtV Hland HaS HaV HcV]
    · isplitl [HtS]; · iexact HtS
      isplitl [HtV]; · iexact HtV
      isplitl [Hland]; · iexact Hland
      isplitl [HaS]; · iexact HaS
      isplitl [HaV] <;> iassumption
    isplitl [Hout] <;> iassumption
  obtain ⟨σ, hσ, ho⟩ := steps_over
  iapply (wp_fupd frame (wpE (defs₀ (F := F)) 𝒱₀ (c : Thread nD τ) none) Set.univ)
  iapply (wpc_wand c (st_run m K c steps sta₀ σ hσ)) $$ Hst
  iintro %u Hst
  iapply (st_end m K c σ ho)
  isplitl [Hst] <;> iassumption

end Cert.Butterfly

end
-- ==== Proof.Butterfly.BodyEq.lean ====
/- The printed body is the barrier and the list of steps. -/
module

public import proofs.«01_k».proof.Proof.Butterfly.Program

@[expose] public section

set_option maxRecDepth 65536

noncomputable section

namespace Cert.Butterfly

open Idealize.ShloMosaic Idealize.SL.Sem
open Cert.KernelIdeal Cert.KernelIdeal.Gen

variable {F : FTy → Type} [FloatOps F]

/-- The printed body, at the launch's buffers, is the barrier followed by the steps in order. -/
theorem body_eq : cc0_body (F := F) (Memref.whole cc0_stg0_0) (Memref.isWhole_whole _) (Memref.whole cc0_stg1_0) (Memref.isWhole_whole _)
    (Memref.whole cc0_stg2_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 = bodyP := by
  chain_rfl

end Cert.Butterfly

end
-- ==== Proof.Butterfly.Data.lean ====
/- The launch's data: what each staging buffer holds before and after the one grid point, and the body's obligation there. -/
module

public import proofs.«01_k».proof.Proof.Butterfly.Body
public import proofs.«01_k».proof.Proof.Butterfly.BodyEq

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body starts from beside its buffers and its debt, -/
def start (c : Dev nD) : sProp 𝕄 := iprop((∃ K, records m K ∗ linear c) ∗ creds c ∗ levAts L lv)
def Φ₀ (c : Dev nD) : sProp 𝕄 := iprop(start m c ∗ accAll c ∗ landAll c)
/-- and what it ends with: its cells' counters at zero. -/
def Φ₁ (c : Dev nD) : sProp 𝕄 := iprop(bigSep Finset.univ (fun k : Cell => semVal (kcell (c, k)) 0) ∗ accAll c ∗ landAll c)

/-- The pipeline's data: the arrays as launched, the inputs' staging buffers kept, the result's at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => win m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem windows (Φ : Fin cfg0.W → sProp 𝕄) : bigSep Finset.univ Φ = iprop(Φ (0 : Fin 3) ∗ Φ (1 : Fin 3) ∗ Φ (2 : Fin 3)) := bigSep_W0 Φ

/-- The one point. -/
abbrev pt : Fin cfg0.N := t0_0

theorem before_x (c : Dev nD) (d) : (dats m ρ 0 c).before (0 : Fin 3) pt d = xin m c := by
  unfold Dat.before; rw [if_pos (fetch0_0 pt)]; rfl
theorem before_w (c : Dev nD) (d) : (dats m ρ 0 c).before (1 : Fin 3) pt d = win m c := by
  unfold Dat.before; rw [if_pos (fetch0_1 pt)]; rfl

def pre (c : Dev nD) : sProp 𝕄 :=
  iprop(Φ₀ m c ∗ (dats m ρ 0 c).owesAt () pt.castSucc
    ∗ (∃ d, at0 c cc0_stg0_0 ((dats m ρ 0 c).before (0 : Fin 3) pt d))
    ∗ (∃ d, at0 c cc0_stg1_0 ((dats m ρ 0 c).before (1 : Fin 3) pt d))
    ∗ (∃ d, at0 c cc0_stg2_0 ((dats m ρ 0 c).before (2 : Fin 3) pt d)))
def post (c : Dev nD) : sProp 𝕄 :=
  iprop(Φ₁ (F := F) c ∗ (dats m ρ 0 c).owesAt () pt.succ ∗ at0 c cc0_stg0_0 (xin m c) ∗ at0 c cc0_stg1_0 (win m c) ∗ at0 c cc0_stg2_0 (outAt m c))

/-- The body takes a device from the point's start to its end. -/
theorem sound (c : Dev nD) : pre m ρ c ⊢ wpc c (bodyP (F := F)) fun _ => post m ρ c := by
  unfold pre Φ₀ start Dat.owesAt Pipeline.owesWithin
  rw [show (dats m ρ 0 c).owed pt.castSucc = O₀ c from rfl]
  simp only [before_x, before_w]
  iintro ⟨⟨⟨⟨%K, #Hrec, Hlin⟩, Hcr, Hlev⟩, Hacc, Hland⟩, ⟨%W, %hW, HO⟩, ⟨%d0, Hx⟩, ⟨%d1, Hw⟩, ⟨%d2, Hout⟩⟩
  iapply (wpc_wand c (wp_body m K c)) $$ [Hlin Hcr Hlev Hacc Hland HO Hx Hw Hout]
  · unfold before
    isplitr; · iexact Hrec
    isplitl [Hlin]; · iexact Hlin
    isplitl [Hcr]; · iexact Hcr
    isplitl [Hlev]; · iexact Hlev
    isplitl [Hacc]; · iexact Hacc
    isplitl [Hland]; · iexact Hland
    isplitl [Hx]; · iexact Hx
    isplitl [Hw]; · iexact Hw
    isplitl [Hout]; · iexists _; iexact Hout
    iexists W; iexact HO
  unfold after post Φ₁ Dat.owesAt Pipeline.owesWithin
  rw [show (dats m ρ 0 c).owed pt.succ = 0 from rfl]
  iintro %u ⟨Hz, Hacc, Hland, Hx, Hw, Hout, ⟨%W', HO⟩⟩
  isplitl [Hz Hacc Hland]
  · isplitl [Hz]; · iexact Hz
    isplitl [Hacc] <;> iassumption
  isplitl [HO]
  · iexists W'
    isplitr; · ipureintro; exact fun _ _ => Or.inl trivial
    iexact HO
  isplitl [Hx]; · iexact Hx
  isplitl [Hw] <;> iassumption

/-- The library's body obligation on device `c`. -/
theorem body_obligation (c : Dev nD) : BodyObligation (dats (F := F) m ρ 0 c) (defs₀ (F := F)) 𝒱₀ () Set.univ := fun t => by
  rw [fin_N0 t, windows, windows]
  simp only [owns_whole]
  show pre m ρ c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) fun _ => post m ρ c
  rw [body_eq]
  exact sound m ρ c

end Cert.Butterfly

end
-- ==== Proof.Butterfly.Launch.lean ====
/- The launch: the protocol's cells are allocated, its tokens dealt, its credit counted; every run ends with the results. -/
module

public import proofs.«01_k».proof.Proof.Butterfly.Data
public import Idealize.ShloMosaic.Lib.Pipeline.CollectiveSegs

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

/-- The messages' semaphores, the kernel's own. -/
abbrev osem (k : Bool × Msg) : SemLoc sig := csem (some k)

theorem ownSemFacts : Pipeline.OwnSemFacts cfg0.spec osem where
  isScoped := by decide +kernel
  inj _ _ h := Option.some.inj (csem_injective h)
  disj := by decide +kernel

theorem share_eq (c : Dev nD) (w : Fin cfg0.W) : (dats m ρ 0 c).share w = fullShare := by unfold Dat.share; split <;> rfl

/-- The barrier's is the one semaphore that outlives the kernel. -/
theorem unscoped_eq (c : Dev nD) : (unscopedSems0 c : sProp 𝕄) = semVal (barCell c) 0 := by
  unfold unscopedSems0; rw [bigSep_eq_bigSepL_of_eq [SemLoc.reg bar] (by decide +kernel) (by decide +kernel)]; rfl

/-- A device's cells at zero: the kernel's own and the barrier's. -/
theorem cells_zero (c : Dev nD) :
    (bigSep Finset.univ fun k : Cell => (semVal (kcell (c, k)) 0 : sProp 𝕄))
      = iprop(unscopedSems0 c ∗ Pipeline.ownSems0 (Ix := Unit) (Name := ℕ) (U := UU) (Lvl := ℕ) (Val := Elt F) (τ := τ) osem c) := by
  rw [bigSep_opt, unscoped_eq]; rfl

/-! ## Tokens -/

def cells : Finset (GSem nD τ sig) := Finset.univ.map ⟨kcell, kcell_injective⟩

/-- One token for each cell and axis; a message's cells use the first alone. -/
abbrev tokOf (x : (Dev nD × Cell) × Fin 3) : GSem nD τ sig × ℕ × Fin 3 := (kcell x.1, 0, x.2)
theorem tokOf_injective : Function.Injective tokOf := by
  rintro ⟨x, a⟩ ⟨y, b⟩ h
  have h1 : x = y := kcell_injective (congrArg Prod.fst h)
  have h2 : a = b := congrArg (fun z : GSem nD τ sig × ℕ × Fin 3 => z.2.2) h
  rw [h1, h2]
def tokens : Finset (GSem nD τ sig × ℕ × Fin 3) := Finset.univ.map ⟨tokOf, tokOf_injective⟩

def u₀ : UU := (initOf (Pipeline.cells cfgs cellOf_inj) (Pipeline.launchToks cfgs cellOf_inj), initOf cells tokens)

/-- The tokens of a device's own cells. -/
def toks (c : Dev nD) : sProp 𝕄 := bigSep Finset.univ fun k : Cell => bigSep Finset.univ fun a : Fin 3 => dutyTok ER (kcell (c, k)) 0 a
/-- The tokens a device pays with: its partners' barriers' and receive cells', its own send cells'. -/
def payToks (c : Dev nD) : sProp 𝕄 :=
  iprop(bigSep Finset.univ (fun a : Fin 3 => dutyTok ER (barCell (prt a c)) 0 a)
    ∗ bigSep Finset.univ (fun k : Msg => dutyTok ER (sndCell c k) 0 0)
    ∗ bigSep Finset.univ (fun k : Msg => dutyTok ER (rcvCell (prt (ax k.1 k.2) c) k) 0 0))

/-- What the launch deals a device. -/
def G (c : Dev nD) : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ toks c)
/-- What the devices make of it together. -/
def G' (c : Dev nD) : sProp 𝕄 := iprop(∃ K, records m K ∗ linear c)

theorem fund : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Cell => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens toks; rw [bigSep_map, bigSep_univ_prod, bigSep_univ_prod]; rfl
  iintro H
  imod (Rounds.fund ER (Rd m) cells tokens) $$ H with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A device's cells become invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ toks c) := by
  have hI : iprop((bigSep Finset.univ fun k : Cell => semVal (kcell (c, k)) 0) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  imod hI $$ [Hos Hus Hst] with Hinv
  · isplitl [Hos Hus]
    · rw [cells_zero]
      isplitl [Hus] <;> iassumption
    iexact Hst
  imodintro
  isplitl [Hinv]; · iexact Hinv
  isplitl [Hat] <;> iassumption

/-- Every device's tokens for its own cells are every device's tokens to pay with: crossing an axis permutes the devices. -/
theorem toks_around : (bigSep Finset.univ fun c : Dev nD => (toks c : sProp 𝕄)) ⊢ bigSep Finset.univ fun c : Dev nD => payToks c := by
  have h1 (c : Dev nD) : (toks c : sProp 𝕄) ⊢ iprop(bigSep Finset.univ (fun a : Fin 3 => dutyTok ER (barCell c) 0 a)
      ∗ bigSep Finset.univ (fun k : Msg => dutyTok ER (sndCell c k) 0 0) ∗ bigSep Finset.univ (fun k : Msg => dutyTok ER (rcvCell c k) 0 0)) := by
    have h (g : GSem nD τ sig) : (bigSep Finset.univ fun a : Fin 3 => (dutyTok ER g 0 a : sProp 𝕄)) ⊢ dutyTok ER g 0 0 := bigSep_elim (Finset.mem_univ 0)
    unfold toks
    rw [bigSep_cells]
    exact sep_mono_right (BIClass.sep_mono (bigSep_mono fun k _ => h _) (bigSep_mono fun k _ => h _))
  have h2 : (bigSep Finset.univ fun c : Dev nD => (toks c : sProp 𝕄)) ⊢ bigSep Finset.univ fun c : Dev nD => _ := bigSep_mono fun c _ => h1 c
  refine h2.trans (Entails.of_eq ?_)
  have hc {I : Type} [Fintype I] (a : I → Fin 3) (Φ : Dev nD → I → sProp 𝕄) :
      (bigSep Finset.univ fun c : Dev nD => bigSep Finset.univ fun i => Φ c i) = bigSep Finset.univ fun c : Dev nD => bigSep Finset.univ fun i => Φ (prt (a i) c) i := by
    rw [bigSep_univ_comm, bigSep_univ_comm (fun (c : Dev nD) (i : I) => Φ (prt (a i) c) i)]
    exact bigSep_congr fun i _ => bigSep_univ_equiv (cross (a i)) fun c => Φ c i
  unfold payToks
  rw [bigSep_sep', bigSep_sep', bigSep_sep', bigSep_sep', hc (fun a => a) fun c a => (dutyTok ER (barCell c) 0 a : sProp 𝕄),
    hc (fun k : Msg => ax k.1 k.2) fun c k => (dutyTok ER (rcvCell c k) 0 0 : sProp 𝕄)]

theorem regroup :
    (bigSep Finset.univ fun c : Dev nD => iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m) := by
  have hG (K : Dev nD × Cell → ℕ) (c : Dev nD) :
      iprop(records m K ∗ ((bigSep Finset.univ fun k : Cell => atPos ER (kcell (c, k)) 0 ∅ 0) ∗ payToks c)) ⊢ G' m c := by
    unfold G' linear payToks
    iintro ⟨#Hrec, Hlin⟩
    iexists K
    isplitr <;> iassumption
  rw [bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  ihave Htk := (toks_around (F := F)) $$ Htok
  iapply (bigSep_use (R := records m K) (hG K))
  isplitr
  · unfold records; rw [bigSep_sep']
    isplitr <;> iassumption
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## Credit -/

theorem tally_cell (c c' : Dev nD) (k k' : Cell) (n : ℕ) :
    (tallyAt (kcell (c', k')) () n : CellTallies nD τ sig Unit) (kcell (c, k)) () = if c = c' ∧ k = k' then n else 0 := by
  rw [tallyAt_apply]
  refine if_congr ⟨fun h => Prod.ext_iff.mp (kcell_injective h.1), fun h => ⟨by rw [h.1, h.2], rfl⟩⟩ rfl rfl

/-- What device `d` owes a cell of device `c`. -/
theorem owed_at (d c : Dev nD) (k : Cell) :
    O₀ d (kcell (c, k)) () = (∑ k' : Msg, if c = prt (ax k'.1 k'.2) d ∧ k = some (true, k') then N k' else 0) + ∑ a : Fin 3, if c = prt a d ∧ k = none then 1 else 0 := by
  unfold O₀ owe oweBar
  rw [Pi.add_apply, Finsupp.add_apply, Finset.sum_apply, Finset.sum_apply, Finsupp.finset_sum_apply, Finsupp.finset_sum_apply]
  simp only [tally_cell]

theorem cross_iff (a : Fin 3) (c d : Dev nD) : c = prt a d ↔ prt a c = d :=
  ⟨fun h => by rw [h, prt_prt], fun h => by rw [← h, prt_prt]⟩

theorem owed_bar (c : Dev nD) : ∑ d : Dev nD, O₀ d (barCell c) () = 3 := by
  simp only [owed_at, cross_iff, reduceCtorEq, and_false, and_true, if_false, Finset.sum_const_zero, zero_add]
  rw [Finset.sum_comm]
  simp

theorem owed_rcv (c : Dev nD) (k : Msg) : ∑ d : Dev nD, O₀ d (rcvCell c k) () = N k := by
  simp only [owed_at, cross_iff, reduceCtorEq, and_false, if_false, Finset.sum_const_zero, add_zero, Option.some.injEq, Prod.mk.injEq, true_and]
  rw [Finset.sum_comm, Finset.sum_eq_single k]
  · simp
  · intro k' _ hk
    exact Finset.sum_eq_zero fun d _ => if_neg fun h => hk h.2.symm
  · intro h; exact absurd (Finset.mem_univ k) h

theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem credit (c : Dev nD) : (Pipeline.launchCred O₀ c : sProp 𝕄) ⊢ creds c := by
  have hsub : (Pipeline.launchCred O₀ c : sProp 𝕄)
      ⊢ bigSep Finset.univ fun k : Cell => cred (tallyOn (kcell (c, k)) (launchCredit (Pipeline.owing O₀) 0 (kcell (c, k)))) := by
    unfold Pipeline.launchCred
    rw [show (bigSep Finset.univ fun k : Cell => (cred (tallyOn (kcell (c, k)) (launchCredit (Pipeline.owing O₀) 0 (kcell (c, k)))) : sProp 𝕄))
      = bigSep (Finset.univ.map csemE) fun sm : SemLoc sig => cred (tallyOn ((c : Thread nD τ), sm) (launchCredit (Pipeline.owing O₀) 0 ((c : Thread nD τ), sm)))
      from (bigSep_map csemE (Φ := fun sm : SemLoc sig => (cred (tallyOn ((c : Thread nD τ), sm) (launchCredit (Pipeline.owing O₀) 0 ((c : Thread nD τ), sm))) : sProp 𝕄))).symm]
    exact bigSep_subset (Finset.subset_univ _)
  refine hsub.trans ?_
  rw [bigSep_cells]
  unfold creds
  rw [launch_cell _ _ (owed_bar c)]
  refine sep_mono_right (sep_elim_right.trans (Entails.of_eq (bigSep_congr fun k _ => ?_)))
  rw [launch_cell _ _ (owed_rcv c k)]

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  unfold start G'
  isplitl
  · isplitl [HG]; · iexact HG
    isplitl [Hcr]; · iapply (credit c); iexact Hcr
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = _ from scratch_eq c]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, show (Pipeline.scopedRest cfg0.spec c : sProp 𝕄) = _ from scratch_eq c]
  unfold Φ₁
  rw [cells_zero]
  iintro ⟨⟨Hu, Ho⟩, Hr⟩
  isplitl [Hu]; · iexact Hu
  isplitl [Ho] <;> iassumption

theorem stage_level : ∀ (w : Fin 3) (s : Fin (spec0 w).nbuf) (k : Cell), csem k ≠ .dma ((spec0 w).sem s) := by decide +kernel

theorem mayWait_any (c : Dev nD) (sm : SemLoc sig) (h : levelOf (preimage? csemE sm) = 0) (O : CellTallies nD τ sig Unit) (hO : O = O₀ c ∨ O = 0) :
    (levAts L lv : sProp 𝕄) ⊢ MayWait (c : Thread nD τ) sm () O := by
  rcases hO with rfl | rfl
  · exact mayWait_stage c sm Finset.univ Finset.univ h
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_any c _ (by
      rw [show preimage? csemE (.dma ((spec0 w).sem s)) = none from dif_neg fun ⟨k, hk⟩ => stage_level w s k hk]; rfl) _ (by
      rcases t with ⟨_ | _, ht⟩
      · exact Or.inl rfl
      · exact Or.inr rfl)

/-! ## The run -/

/-- What device `c`'s array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On eight devices, for any float values, from any memory with zero counters: every weakly fair run of the program
    ends, with each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays end as they began. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.Butterfly

end
-- ==== Proof.Butterfly.Cube.lean ====
/- What the rounds of one flow compute, apart from any buffer: crossing the three axes one after the other, each time
   adding the partner's value, sums over all eight devices; and a slot stays one device's rows on both sides of an axis. -/
module

public import proofs.«01_k».proof.Proof.Butterfly.Protocol

@[expose] public section

set_option maxRecDepth 16384

noncomputable section

namespace Cert.Butterfly

open Idealize.ShloMosaic
open Cert.KernelIdeal Cert.KernelIdeal.Gen

/-! ## Whose rows a slot holds -/

/-- Slot `j` of device `d` holds a partial product of the rows for this device. -/
def dest (d : Dev nD) (j : Fin 8) : Dev nD := (show Fin 8 from d) ^^^ gray j

/-- The rows a seed reads are those of the slot's destination: 256 rows from 256 times its number on. -/
theorem off_dest : ∀ (d : Dev nD) (j : Fin 8), k0_off1 d (BitVec.ofNat 32 (gray j).val) = ![(dest d j).val * 256, 0] := by decide +kernel

/-- Across an axis the partner's flipped slot is for the same device, -/
theorem dest_cross : ∀ (a : Fin 3) (d : Dev nD) (j : Fin 8), dest (prt a d) (flip a j) = dest d j := by decide +kernel

/-- and slot 0 is the device's own. -/
theorem dest_zero : ∀ d : Dev nD, dest d 0 = d := by decide +kernel

/-! ## Sums over the cube -/

variable {M : Type} [AddCommMonoid M]

/-- Device `c`'s value after `r` rounds of flow `f` that start from `p`: each round adds the partner's value. -/
def gather (f : Fin 4) (p : Dev nD → M) : ℕ → Dev nD → M
  | 0, c => p c
  | r + 1, c => gather f p r c + gather f p r (prt (ord f r) c)

/-- The eight devices met from `c` in three rounds of flow `f`, in the order of the sum. -/
def met (f : Fin 4) (c : Dev nD) : Fin 8 → Dev nD :=
  let x := prt (ord f 0); let y := prt (ord f 1); let z := prt (ord f 2)
  ![c, x c, y c, x (y c), z c, x (z c), y (z c), x (y (z c))]

/-- They are all the devices, each once. -/
theorem met_injective : ∀ (f : Fin 4) (c : Dev nD) (i j : Fin 8), met f c i = met f c j → i = j := by decide +kernel
theorem met_bijective (f : Fin 4) (c : Dev nD) : Function.Bijective (met f c) :=
  Finite.injective_iff_bijective.mp fun i j h => met_injective f c i j h

/-- After three rounds every device holds the sum over all devices. -/
theorem gather_all (f : Fin 4) (p : Dev nD → M) (c : Dev nD) : gather f p 3 c = ∑ d : Dev nD, p d := by
  rw [← (met_bijective f c).sum_comp p, Fin.sum_univ_eight]
  simp only [gather, add_assoc]
  rfl

end Cert.Butterfly

end
-- ==== Proof.Butterfly.Value.lean ====
/- What the kernel's result holds at the ideal values: row `i`, column `j` of device `c`'s result is the sum, over all
   devices `d` and the 256 columns of `d`'s part of `x`, of `x` at row `256 c + i` times `d`'s part of `w` at column `j`. -/
module

public import proofs.«01_k».proof.Proof.Butterfly.Cube
public import proofs.«01_k».proof.Proof.Butterfly.Launch
public import Idealize.ShloMosaic.Lib.Pointwise.Contract
public import Idealize.ShloMosaic.PureOps.Ideal.Laws

@[expose] public section

set_option maxRecDepth 16384

noncomputable section

namespace Cert.Butterfly

open Cert.KernelIdeal Cert.KernelIdeal.Gen
open Idealize.ShloMosaic Idealize.ShloMosaic.TcCoe Idealize.SL.Sem
open Idealize.ShloMosaic.Pipeline (Dat)
open scoped BigOperators

section Arrays
variable {F : FTy → Type} [FloatOps F]
variable (m : (ℓ : Loc nD τ sig) → Buf (Elt F) ℓ) (ρ : Dev nD → PrngReg)

/-! ## The windows are whole arrays -/

theorem win_zero (w : Fin 3) : (fun a => (cfg0.win w).index t0_0 a * (cfg0.win w).block.size a) = fun _ => 0 := by
  funext a; fin_cases w <;> fin_cases a <;> rfl

/-- The staged arguments are the argument arrays. -/
theorem xin_eq (c : Dev nD) : xin m c = m ((c : Thread nD τ).loc main_arg0) := by
  unfold xin iblk
  exact Memref.read_access_unit_zero (Elt F) main_arg0 (win_zero 0) (fun a => by fin_cases a <;> decide) (m ((c : Thread nD τ).loc main_arg0))
theorem win_eq (c : Dev nD) : win m c = m ((c : Thread nD τ).loc main_arg1) := by
  unfold win iblk
  exact Memref.read_access_unit_zero (Elt F) main_arg1 (win_zero 1) (fun a => by fin_cases a <;> decide) (m ((c : Thread nD τ).loc main_arg1))

/-- The result's array ends at what the body left in its staging buffer. -/
theorem finalA_out (c : Dev nD) : finalA m ρ c (2 : Fin 3) = outAt m c := by
  show (dats m ρ 0 c).arrAt (2 : Fin 3) 1 = _
  unfold Dat.arrAt
  rw [dif_pos (show 0 < cfg0.N by decide)]
  show (if (cfg0.win (2 : Fin 3)).flush t0_0 = true then _ else _) = _
  rw [if_pos (flush0_2 t0_0)]
  exact Memref.write_access_unit_zero_univ (Elt F) main_v1 (win_zero 2) (fun a => by fin_cases a <;> decide) _ _

end Arrays

/-! ## At the ideal values -/

variable (m : (ℓ : Loc nD τ sig) → Buf (Elt Ideal) ℓ)

/-- A row and a column of device `d`'s arguments. -/
def xval (d : Dev nD) (i : Fin 2048) (k : Fin 256) : EReal := (m ((d : Thread nD τ).loc main_arg0) : S2048x256.Idx → EReal) (Shape.pair (d := ![2048, 256]) i k)
def wval (d : Dev nD) (k : Fin 256) (j : Fin 2048) : EReal := (m ((d : Thread nD τ).loc main_arg1) : S256x2048.Idx → EReal) (Shape.pair (d := ![256, 2048]) k j)

/-- Row `i` of block `t` among 2048 rows. -/
def rowOf (t : Fin 8) (i : Fin 256) : Fin 2048 := ⟨t.val * 256 + i.val, by have := t.isLt; have := i.isLt; omega⟩

/-- Device `d`'s share of row `i`, column `j` of the result on device `t`. -/
def part (t : Dev nD) (i : Fin 256) (j : Fin 2048) (d : Dev nD) : EReal := ∑ k : Fin 256, xval m d (rowOf t i) k * wval m d k j

theorem col_lt (f : Fin 4) (l : Fin (wid f)) : lo f + l.val < 2048 := by
  have h : lo f + wid f ≤ 2048 := by revert f; decide
  have := l.isLt; omega
/-- Column `l` of a flow's band among the 2048 columns. -/
def colOf (f : Fin 4) (l : Fin (wid f)) : Fin 2048 := ⟨lo f + l.val, col_lt f l⟩

theorem rows_apply (c : Dev nD) (j : Fin 8) (i k : Fin 256) :
    rows m c j (Shape.pair (d := ![256, 256]) i k) = xval m c (rowOf (dest c j) i) k := by
  unfold rows xval
  rw [xin_eq]
  show (m ((c : Thread nD τ).loc main_arg0) : S2048x256.Idx → EReal) ((rowsR c j).emb (Shape.pair (d := ![256, 256]) i k)) = _
  congr 1
  funext a; apply Fin.ext
  have h := off_dest c j
  match a with
  | ⟨0, _⟩ => show k0_off1 c (BitVec.ofNat 32 (gray j).val) 0 + 1 * i.val = (dest c j).val * 256 + i.val; rw [h, Nat.one_mul]; rfl
  | ⟨1, _⟩ => show k0_off1 c (BitVec.ofNat 32 (gray j).val) 1 + 1 * k.val = k.val; rw [h, Nat.one_mul]; exact Nat.zero_add _

theorem band_apply (c : Dev nD) (f : Fin 4) (k : Fin 256) (l : Fin (wid f)) :
    band m c f (Shape.pair (d := ![256, wid f]) k l) = wval m c k (colOf f l) := by
  unfold band wval
  rw [win_eq]
  show (m ((c : Thread nD τ).loc main_arg1) : S256x2048.Idx → EReal) ((bandR f).emb (Shape.pair (d := ![256, wid f]) k l)) = _
  congr 1
  funext a; apply Fin.ext
  match a with
  | ⟨0, _⟩ => show 0 + 1 * k.val = k.val; omega
  | ⟨1, _⟩ => show lo f + 1 * l.val = lo f + l.val; omega

/-- A seed is its device's share of the destination's rows. -/
theorem seed_apply (c : Dev nD) (f : Fin 4) (j : Fin 8) (i : Fin 256) (l : Fin (wid f)) :
    seedV f (rows m c j) (band m c f) (Shape.pair (d := ![256, wid f]) i l) = part m (dest c j) i (colOf f l) c := by
  unfold seedV part
  rw [shapeCast_self, shapeCast_self]
  show Ideal.matmul (dims f) (rows m c j) (band m c f) _ _ = _
  rw [Ideal.matmul_apply₁_of (dims f) (a := 1) rfl (K := 256) rfl _ _ _ _
    (fun k => Shape.pair (d := ![256, 256]) i k) (fun k => Shape.pair (d := ![256, wid f]) k l)
    (fun k => by funext a; apply Fin.ext; match a with | ⟨0, _⟩ => rfl | ⟨1, _⟩ => rfl)
    (fun k => by funext a; apply Fin.ext; match a with | ⟨0, _⟩ => rfl | ⟨1, _⟩ => rfl)]
  have hz : (constant (F := Ideal) (SM (wid f)) .f32 0x00000000#32) (Shape.pair (d := ![256, wid f]) i l) = 0 := Ideal.ofBits_zero_f32
  rw [hz, zero_add]
  exact Finset.sum_congr rfl fun k _ => by rw [rows_apply, band_apply]

/-- After `r` rounds a slot holds what `r` rounds of adding the partner's value make of the shares. -/
theorem V_apply (f : Fin 4) (i : Fin 256) (l : Fin (wid f)) : ∀ (r : ℕ) (c : Dev nD) (j : Fin 8),
    V m f r c j (Shape.pair (d := ![256, wid f]) i l) = gather f (part m (dest c j) i (colOf f l)) r c
  | 0, c, j => seed_apply m c f j i l
  | r + 1, c, j => by
    show V m f r c j (Shape.pair (d := ![256, wid f]) i l)
      + V m f r (prt (ord f r) c) (flip (ord f r) j) (Shape.pair (d := ![256, wid f]) i l) = _
    rw [V_apply f i l r, V_apply f i l r, dest_cross]
    rfl

/-- The result on device `c`, by row and column: the sum of all devices' shares. -/
theorem outAt_apply (c : Dev nD) (i : Fin 256) (j : Fin 2048) :
    outAt m c (Shape.pair (d := ![256, 2048]) i j) = ∑ d : Dev nD, part m c i j d := by
  obtain ⟨f, y, hy⟩ := band_cover (Shape.pair (d := ![256, 2048]) i j)
  rw [← hy, outAt_band, ← Shape.pair_eta (d := ![256, wid f]) y, V_apply m f (y 0) (y 1) 3 c 0, dest_zero, gather_all]
  have hi : y 0 = i := by
    apply Fin.ext
    have h : 0 + 1 * (y 0).val = i.val := congrArg (fun z : S256x2048.Idx => (z 0).val) hy
    omega
  have hj : colOf f (y 1) = j := by
    apply Fin.ext
    have h : lo f + 1 * (y 1).val = j.val := congrArg (fun z : S256x2048.Idx => (z 1).val) hy
    show lo f + (y 1).val = j.val; omega
  rw [hi, hj]

end Cert.Butterfly

end
-- ==== Proof.Butterfly.Reference.lean ====
/- The reference's product of the two whole arrays, block by block: row `i` of block `c` is the sum over the eight devices
   of their shares, since the 2048 positions that the product sums over are the devices' 256 positions one after the other. -/
module

public import proofs.«01_k».proof.Proof.Butterfly.Value
public import proofs.«01_k».proof.Proof.Gen.ReferenceIdeal
public import Idealize.ShloMosaic.Lib.Layout

@[expose] public section

set_option maxRecDepth 16384

noncomputable section

namespace Cert.Butterfly

open Idealize.ShloMosaic Idealize.ShloMosaic.TcCoe Idealize.SL.Sem
open scoped BigOperators

/-- Two whole arrays' product, as the reference computes it. -/
def product (x w : Cert.ReferenceIdeal.S2048x2048.Idx → EReal) : Cert.ReferenceIdeal.S2048x2048.Idx → EReal :=
  Host.dotGeneral (F := Ideal) (φ₁ := .f32) (φ₂ := .f32) Cert.ReferenceIdeal.dot_S2048x2048_S2048x2048_S2048x2048_1_0_0_1_n_n none x w

/-- It is, at row `i` and column `j`, the sum over `k` of `x[i, k] w[k, j]`. -/
theorem product_apply (x w : Cert.ReferenceIdeal.S2048x2048.Idx → EReal) (i j : Fin 2048) :
    product x w (Shape.pair (d := ![2048, 2048]) i j)
      = ∑ k : Fin 2048, x (Shape.pair (d := ![2048, 2048]) i k) * w (Shape.pair (d := ![2048, 2048]) k j) := by
  unfold product
  refine (Ideal.dotGeneral_apply _ _ _ _ _ _).trans ?_
  rw [DotDims.sum_contr₁ _ (a := 1) rfl (K := 2048) rfl]
  refine Finset.sum_congr rfl fun k _ => ?_
  congr 2 <;> funext a <;> apply Fin.ext <;> (match a with | ⟨0, _⟩ => rfl | ⟨1, _⟩ => rfl)

/-- A sum over 2048 positions, block after block. -/
theorem sum_rows {M : Type} [AddCommMonoid M] (g : Fin 2048 → M) : ∑ k, g k = ∑ d : Fin 8, ∑ k : Fin 256, g (rowOf d k) := by
  rw [← (finProdFinEquiv (m := 8) (n := 256)).sum_comp g, Fintype.sum_prod_type]
  refine Finset.sum_congr rfl fun d _ => Finset.sum_congr rfl fun k _ => congrArg g (Fin.ext ?_)
  show k.val + 256 * d.val = d.val * 256 + k.val
  omega

open Cert.KernelIdeal in
/-- Where the devices' arguments are the blocks of two whole arrays, device `c`'s result is block `c` of their product. -/
theorem outAt_product (m : (ℓ : Loc nD τ sig) → Buf (Elt Ideal) ℓ) (x w : Cert.ReferenceIdeal.S2048x2048.Idx → EReal)
    (hx : ∀ c : Dev nD, m ((c : Thread nD τ).loc main_arg0) = Layout.block ⟨2, ![2048, 256]⟩ ⟨2, ![2048, 2048]⟩ 1 8 c x)
    (hw : ∀ c : Dev nD, m ((c : Thread nD τ).loc main_arg1) = Layout.block ⟨2, ![256, 2048]⟩ ⟨2, ![2048, 2048]⟩ 0 8 c w) (c : Dev nD) :
    outAt m c = Layout.block ⟨2, ![256, 2048]⟩ ⟨2, ![2048, 2048]⟩ 0 8 c (product x w) := by
  funext y
  obtain ⟨i, j, rfl⟩ : ∃ (i : Fin 256) (j : Fin 2048), y = Shape.pair (d := ![256, 2048]) i j := ⟨y 0, y 1, (Shape.pair_eta (d := ![256, 2048]) y).symm⟩
  have h : ∑ d : Dev nD, part m c i j d = product x w (Shape.pair (d := ![2048, 2048]) (rowOf c i) j) := by
    rw [product_apply, sum_rows]
    refine Finset.sum_congr rfl fun d _ => Finset.sum_congr rfl fun k _ => ?_
    unfold xval wval
    rw [hx, hw]
    exact congrArg₂ (· * ·) (congrArg x (Layout.idx_cols_pair (dS := ![2048, 256]) (dT := ![2048, 2048]) (by decide) d (rowOf c i) k))
      (congrArg w (Layout.idx_rows_pair (dS := ![256, 2048]) (dT := ![2048, 2048]) (by decide) d k j))
  exact (outAt_apply m c i j).trans (h.trans
    (congrArg (product x w) (Layout.idx_rows_pair (dS := ![256, 2048]) (dT := ![2048, 2048]) (by decide) c i j)).symm)

end Cert.Butterfly

end
-- ==== Proof.lean ====
/- The five claims about the kernel (four flows of pairwise exchanges over a cube of eight devices, which sum the devices'
   partial products and leave each device its rows of the sum) and about the product of the two whole arrays.

   The run of the kernel is proved once, for any float values (Butterfly/Launch.lean, `run_main`): the two frames are that
   run with the values dropped, and the value claim is that run at the ideal values, where the result is the sum of all
   devices' partial products (Butterfly/Value.lean) and so a block of the whole product (Butterfly/Reference.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Butterfly.Launch
public import proofs.«01_k».proof.Proof.Butterfly.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem

section Run
open Cert.KernelIdeal Cert.Butterfly
variable {F : FTy → Type} [FloatOps F]

/-- What a run of the kernel leaves on every device: the result, and both arguments unchanged. -/
theorem arrays {m : (ℓ : Loc nD τ sig) → Buf (Elt F) ℓ} {ρ : Dev nD → PrngReg} {r : PUnit × MemSt nD τ sig (Elt F)} (h : QC m ρ r) (c : Dev nD) :
    r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1) :=
  ⟨(h c (2 : Fin 3)).trans (finalA_out m ρ c), (h c (0 : Fin 3)).trans (finalA_x m ρ c), (h c (1 : Fin 3)).trans (finalA_w m ρ c)⟩

end Run

/-- The kernel and its idealization have one body table: the same body at the one label, -/
theorem bodies_eq : Cert.Kernel.defs₀ (F := Bits) = Cert.KernelIdeal.defs₀ (F := Bits) := by
  refine congrArg Defs.onTc (funext fun ℓ => funext fun x => ?_)
  obtain ⟨_ | n, h⟩ := ℓ
  · rfl
  · exact absurd h (by omega)
/-- and the same pipeline over it. -/
theorem defs_eq : Cert.Kernel.defs (F := Bits) = Cert.KernelIdeal.defs (F := Bits) :=
  congrArg (Pipeline.defs (Cert.KernelIdeal.pcfgs (F := Bits))) bodies_eq

/-- The kernel ends, without fault, with its arguments unchanged and every counter at zero; -/
theorem frame_kernel : Cert.quiescent_Kernel (hKernel := Cert.Kernel.Gen.facts) := fun m ρ _ => by
  rw [defs_eq]
  exact (θ_run Cert.KernelIdeal.defs _ _).mono (fun _ h => ⟨fun c => (arrays h.1 c).2, h.2⟩) (Cert.Butterfly.run_main (F := Bits) m ρ)

/-- so does the kernel at the ideal values, -/
theorem frame_ideal : Cert.quiescent_KernelIdeal (hKernelIdeal := Cert.KernelIdeal.Gen.facts) := fun m ρ _ =>
  (θ_run Cert.KernelIdeal.defs _ _).mono (fun _ h => ⟨fun c => (arrays h.1 c).2, h.2⟩) (Cert.Butterfly.run_main (F := Ideal) m ρ)

/-- and the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result on device `c` is block `c` of the product of the whole arrays. -/
theorem value : Cert.algebraic_KernelIdeal_ReferenceIdeal (hKernelIdeal := Cert.KernelIdeal.Gen.facts) (hReferenceIdeal := Cert.ReferenceIdeal.Gen.facts) := by
  intro m ρ m' ρ' _ hm
  refine ⟨Cert.Butterfly.product (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ?_) (Cert.Butterfly.run_main (F := Ideal) m ρ)
    refine ⟨(arrays h.1 c).1.trans ?_, (arrays h.1 c).2⟩
    exact Cert.Butterfly.outAt_product m _ _ (fun c => (hm c).1) (fun c => (hm c).2) c
  · exact (θ_run Cert.ReferenceIdeal.defs _ _).mono (fun r h => h 0) (Cert.ReferenceIdeal.Value.run (F := Ideal) m' ρ')

/-- All that is claimed. -/
theorem claim : Cert.Claim :=
  ⟨Cert.Kernel.Gen.facts, Cert.KernelIdeal.Gen.facts, Cert.ReferenceIdeal.Gen.facts,
    frame_kernel, frame_ideal, frame_reference, trivial, value⟩

end Cert.Proof

end
